-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_expert_ids_KernelIdeal [hPre_expert_ids_KernelIdeal : Cert.Pre_expert_ids_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_expert_ids_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_ids_ReferenceIdeal [hPre_expert_ids_ReferenceIdeal : Cert.Pre_expert_ids_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_ids_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_expert_ids_KernelIdeal [hKernelIdeal : Cert.KernelIdeal.Facts] [hPre_expert_ids_KernelIdeal : Cert.Pre_expert_ids_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_ids_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_expert_ids_ReferenceIdeal [hReferenceIdeal : Cert.ReferenceIdeal.Facts] [hPre_expert_ids_ReferenceIdeal : Cert.Pre_expert_ids_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_ids_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_expert_ids_KernelIdeal [hKernelIdeal : Cert.KernelIdeal.Facts] [hReferenceIdeal : Cert.ReferenceIdeal.Facts] [hPre_expert_ids_KernelIdeal : Cert.Pre_expert_ids_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_ids_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_expert_ids_KernelIdeal : Cert.Pre_expert_ids_KernelIdeal.Facts) (hPre_expert_ids_ReferenceIdeal : Cert.Pre_expert_ids_ReferenceIdeal.Facts),
    quiescent_Kernel (hKernel := hKernel)
    ∧ quiescent_KernelIdeal (hKernelIdeal := hKernelIdeal)
    ∧ quiescent_KernelIdeal_pre_expert_ids_KernelIdeal (hKernelIdeal := hKernelIdeal) (hPre_expert_ids_KernelIdeal := hPre_expert_ids_KernelIdeal)
    ∧ quiescent_ReferenceIdeal (hReferenceIdeal := hReferenceIdeal)
    ∧ quiescent_ReferenceIdeal_pre_expert_ids_ReferenceIdeal (hReferenceIdeal := hReferenceIdeal) (hPre_expert_ids_ReferenceIdeal := hPre_expert_ids_ReferenceIdeal)
    ∧ preserves_Kernel_KernelIdeal
    ∧ algebraic_KernelIdeal_ReferenceIdeal_pre_expert_ids_KernelIdeal (hKernelIdeal := hKernelIdeal) (hReferenceIdeal := hReferenceIdeal) (hPre_expert_ids_KernelIdeal := hPre_expert_ids_KernelIdeal)
-- ==== Pre_expert_ids_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S8x512x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Pre_expert_ids_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .f32) (main_arg1 : FVec F S512x64 .f32) (main_arg2 : IVec S2048x1 32) (main_arg3 : FVec F S64x512x1024 .f32) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S2048x1024 : Shape := ⟨2, ![2048, 1024]⟩
abbrev S2048x2048 : Shape := ⟨2, ![2048, 2048]⟩
abbrev S7 : Shape := ⟨1, ![7]⟩
abbrev S8 : Shape := ⟨1, ![8]⟩
abbrev S_ : Shape := ⟨0, ![]⟩
abbrev S2048x64 : Shape := ⟨2, ![2048, 64]⟩
abbrev S1x64 : Shape := ⟨2, ![1, 64]⟩
abbrev S2047x64 : Shape := ⟨2, ![2047, 64]⟩
abbrev S2x64 : Shape := ⟨2, ![2, 64]⟩
abbrev S2046x64 : Shape := ⟨2, ![2046, 64]⟩
abbrev S4x64 : Shape := ⟨2, ![4, 64]⟩
abbrev S2044x64 : Shape := ⟨2, ![2044, 64]⟩
abbrev S8x64 : Shape := ⟨2, ![8, 64]⟩
abbrev S2040x64 : Shape := ⟨2, ![2040, 64]⟩
abbrev S16x64 : Shape := ⟨2, ![16, 64]⟩
abbrev S2032x64 : Shape := ⟨2, ![2032, 64]⟩
abbrev S32x64 : Shape := ⟨2, ![32, 64]⟩
abbrev S2016x64 : Shape := ⟨2, ![2016, 64]⟩
abbrev S64x64 : Shape := ⟨2, ![64, 64]⟩
abbrev S1984x64 : Shape := ⟨2, ![1984, 64]⟩
abbrev S128x64 : Shape := ⟨2, ![128, 64]⟩
abbrev S1920x64 : Shape := ⟨2, ![1920, 64]⟩
abbrev S256x64 : Shape := ⟨2, ![256, 64]⟩
abbrev S1792x64 : Shape := ⟨2, ![1792, 64]⟩
abbrev S1536x64 : Shape := ⟨2, ![1536, 64]⟩
abbrev S1024x64 : Shape := ⟨2, ![1024, 64]⟩
abbrev S2048 : Shape := ⟨1, ![2048]⟩
abbrev S2048x256 : Shape := ⟨2, ![2048, 256]⟩
abbrev S256x512 : Shape := ⟨2, ![256, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S1 : Shape := ⟨1, ![1]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S8x512x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_100 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_99 : BitVec 32 := 256#32
  let v223 : BitVec 32 := Scalar.muli v2 c256_i32_99
  let v224 : BitVec 32 := Scalar.addi v223 c0_i32_100
  let v225 : Index := Scalar.indexCast v224
  let c0_101 : Index := 0#32
  ![v225.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_146 : BitVec 32 := 256#32
  let v332 : BitVec 32 := Scalar.muli v2 c256_i32_146
  let c0_i32_150 : BitVec 32 := 0#32
  ![v332.toNat, 0]
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_138 : BitVec 32 := 1#32
  let v320 : BitVec 32 := Scalar.addi v2 c1_i32_138
  let c8_i32_139 : BitVec 32 := 8#32
  let c0_i32_140 : BitVec 32 := 0#32
  let v321 : BitVec 1 := Scalar.cmpi .eq c8_i32_139 c0_i32_140
  let c1_i32_141 : BitVec 32 := 1#32
  let v322 : BitVec 32 := Scalar.select v321 c1_i32_141 c8_i32_139
  let v323 : BitVec 32 := Scalar.remsi v320 v322
  let c0_i32_143 : BitVec 32 := 0#32
  let v325 : BitVec 1 := Scalar.cmpi .slt v323 c0_i32_143
  let c0_i32_144 : BitVec 32 := 0#32
  let v326 : BitVec 1 := Scalar.cmpi .slt v322 c0_i32_144
  let v327 : BitVec 1 := Scalar.xori v325 v326
  let c0_i32_142 : BitVec 32 := 0#32
  let v324 : BitVec 1 := Scalar.cmpi .ne v323 c0_i32_142
  let v328 : BitVec 1 := Scalar.andi v327 v324
  let v329 : BitVec 32 := Scalar.addi v323 v322
  let v330 : BitVec 32 := Scalar.select v328 v329 v323
  let c1_i32_148 : BitVec 32 := 1#32
  let v333 : BitVec 32 := Scalar.muli v330 c1_i32_148
  let v334 : BitVec 32 := Scalar.addi c0_i32_149 v333
  v334.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_152 : BitVec 32 := 2#32
  let v341 : BitVec 32 := Scalar.addi v2 c2_i32_152
  let c8_i32_153 : BitVec 32 := 8#32
  let c0_i32_154 : BitVec 32 := 0#32
  let v342 : BitVec 1 := Scalar.cmpi .eq c8_i32_153 c0_i32_154
  let c1_i32_155 : BitVec 32 := 1#32
  let v343 : BitVec 32 := Scalar.select v342 c1_i32_155 c8_i32_153
  let v344 : BitVec 32 := Scalar.remsi v341 v343
  let c0_i32_157 : BitVec 32 := 0#32
  let v346 : BitVec 1 := Scalar.cmpi .slt v344 c0_i32_157
  let c0_i32_158 : BitVec 32 := 0#32
  let v347 : BitVec 1 := Scalar.cmpi .slt v343 c0_i32_158
  let v348 : BitVec 1 := Scalar.xori v346 v347
  let c0_i32_156 : BitVec 32 := 0#32
  let v345 : BitVec 1 := Scalar.cmpi .ne v344 c0_i32_156
  let v349 : BitVec 1 := Scalar.andi v348 v345
  let v350 : BitVec 32 := Scalar.addi v344 v343
  let v351 : BitVec 32 := Scalar.select v349 v350 v344
  let c1_i32_162 : BitVec 32 := 1#32
  let v354 : BitVec 32 := Scalar.muli v351 c1_i32_162
  let v355 : BitVec 32 := Scalar.addi c0_i32_163 v354
  v355.toNat
def k0_dev10 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_166 : BitVec 32 := 3#32
  let v362 : BitVec 32 := Scalar.addi v2 c3_i32_166
  let c8_i32_167 : BitVec 32 := 8#32
  let c0_i32_168 : BitVec 32 := 0#32
  let v363 : BitVec 1 := Scalar.cmpi .eq c8_i32_167 c0_i32_168
  let c1_i32_169 : BitVec 32 := 1#32
  let v364 : BitVec 32 := Scalar.select v363 c1_i32_169 c8_i32_167
  let v365 : BitVec 32 := Scalar.remsi v362 v364
  let c0_i32_171 : BitVec 32 := 0#32
  let v367 : BitVec 1 := Scalar.cmpi .slt v365 c0_i32_171
  let c0_i32_172 : BitVec 32 := 0#32
  let v368 : BitVec 1 := Scalar.cmpi .slt v364 c0_i32_172
  let v369 : BitVec 1 := Scalar.xori v367 v368
  let c0_i32_170 : BitVec 32 := 0#32
  let v366 : BitVec 1 := Scalar.cmpi .ne v365 c0_i32_170
  let v370 : BitVec 1 := Scalar.andi v369 v366
  let v371 : BitVec 32 := Scalar.addi v365 v364
  let v372 : BitVec 32 := Scalar.select v370 v371 v365
  let c1_i32_176 : BitVec 32 := 1#32
  let v375 : BitVec 32 := Scalar.muli v372 c1_i32_176
  let v376 : BitVec 32 := Scalar.addi c0_i32_177 v375
  v376.toNat
def k0_dev11 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_180 : BitVec 32 := 4#32
  let v383 : BitVec 32 := Scalar.addi v2 c4_i32_180
  let c8_i32_181 : BitVec 32 := 8#32
  let c0_i32_182 : BitVec 32 := 0#32
  let v384 : BitVec 1 := Scalar.cmpi .eq c8_i32_181 c0_i32_182
  let c1_i32_183 : BitVec 32 := 1#32
  let v385 : BitVec 32 := Scalar.select v384 c1_i32_183 c8_i32_181
  let v386 : BitVec 32 := Scalar.remsi v383 v385
  let c0_i32_185 : BitVec 32 := 0#32
  let v388 : BitVec 1 := Scalar.cmpi .slt v386 c0_i32_185
  let c0_i32_186 : BitVec 32 := 0#32
  let v389 : BitVec 1 := Scalar.cmpi .slt v385 c0_i32_186
  let v390 : BitVec 1 := Scalar.xori v388 v389
  let c0_i32_184 : BitVec 32 := 0#32
  let v387 : BitVec 1 := Scalar.cmpi .ne v386 c0_i32_184
  let v391 : BitVec 1 := Scalar.andi v390 v387
  let v392 : BitVec 32 := Scalar.addi v386 v385
  let v393 : BitVec 32 := Scalar.select v391 v392 v386
  let c1_i32_190 : BitVec 32 := 1#32
  let v396 : BitVec 32 := Scalar.muli v393 c1_i32_190
  let v397 : BitVec 32 := Scalar.addi c0_i32_191 v396
  v397.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_194 : BitVec 32 := 5#32
  let v404 : BitVec 32 := Scalar.addi v2 c5_i32_194
  let c8_i32_195 : BitVec 32 := 8#32
  let c0_i32_196 : BitVec 32 := 0#32
  let v405 : BitVec 1 := Scalar.cmpi .eq c8_i32_195 c0_i32_196
  let c1_i32_197 : BitVec 32 := 1#32
  let v406 : BitVec 32 := Scalar.select v405 c1_i32_197 c8_i32_195
  let v407 : BitVec 32 := Scalar.remsi v404 v406
  let c0_i32_199 : BitVec 32 := 0#32
  let v409 : BitVec 1 := Scalar.cmpi .slt v407 c0_i32_199
  let c0_i32_200 : BitVec 32 := 0#32
  let v410 : BitVec 1 := Scalar.cmpi .slt v406 c0_i32_200
  let v411 : BitVec 1 := Scalar.xori v409 v410
  let c0_i32_198 : BitVec 32 := 0#32
  let v408 : BitVec 1 := Scalar.cmpi .ne v407 c0_i32_198
  let v412 : BitVec 1 := Scalar.andi v411 v408
  let v413 : BitVec 32 := Scalar.addi v407 v406
  let v414 : BitVec 32 := Scalar.select v412 v413 v407
  let c1_i32_204 : BitVec 32 := 1#32
  let v417 : BitVec 32 := Scalar.muli v414 c1_i32_204
  let v418 : BitVec 32 := Scalar.addi c0_i32_205 v417
  v418.toNat
def k0_dev13 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_208 : BitVec 32 := 6#32
  let v425 : BitVec 32 := Scalar.addi v2 c6_i32_208
  let c8_i32_209 : BitVec 32 := 8#32
  let c0_i32_210 : BitVec 32 := 0#32
  let v426 : BitVec 1 := Scalar.cmpi .eq c8_i32_209 c0_i32_210
  let c1_i32_211 : BitVec 32 := 1#32
  let v427 : BitVec 32 := Scalar.select v426 c1_i32_211 c8_i32_209
  let v428 : BitVec 32 := Scalar.remsi v425 v427
  let c0_i32_213 : BitVec 32 := 0#32
  let v430 : BitVec 1 := Scalar.cmpi .slt v428 c0_i32_213
  let c0_i32_214 : BitVec 32 := 0#32
  let v431 : BitVec 1 := Scalar.cmpi .slt v427 c0_i32_214
  let v432 : BitVec 1 := Scalar.xori v430 v431
  let c0_i32_212 : BitVec 32 := 0#32
  let v429 : BitVec 1 := Scalar.cmpi .ne v428 c0_i32_212
  let v433 : BitVec 1 := Scalar.andi v432 v429
  let v434 : BitVec 32 := Scalar.addi v428 v427
  let v435 : BitVec 32 := Scalar.select v433 v434 v428
  let c1_i32_218 : BitVec 32 := 1#32
  let v438 : BitVec 32 := Scalar.muli v435 c1_i32_218
  let v439 : BitVec 32 := Scalar.addi c0_i32_219 v438
  v439.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_222 : BitVec 32 := 7#32
  let v446 : BitVec 32 := Scalar.addi v2 c7_i32_222
  let c8_i32_223 : BitVec 32 := 8#32
  let c0_i32_224 : BitVec 32 := 0#32
  let v447 : BitVec 1 := Scalar.cmpi .eq c8_i32_223 c0_i32_224
  let c1_i32_225 : BitVec 32 := 1#32
  let v448 : BitVec 32 := Scalar.select v447 c1_i32_225 c8_i32_223
  let v449 : BitVec 32 := Scalar.remsi v446 v448
  let c0_i32_227 : BitVec 32 := 0#32
  let v451 : BitVec 1 := Scalar.cmpi .slt v449 c0_i32_227
  let c0_i32_228 : BitVec 32 := 0#32
  let v452 : BitVec 1 := Scalar.cmpi .slt v448 c0_i32_228
  let v453 : BitVec 1 := Scalar.xori v451 v452
  let c0_i32_226 : BitVec 32 := 0#32
  let v450 : BitVec 1 := Scalar.cmpi .ne v449 c0_i32_226
  let v454 : BitVec 1 := Scalar.andi v453 v450
  let v455 : BitVec 32 := Scalar.addi v449 v448
  let v456 : BitVec 32 := Scalar.select v454 v455 v449
  let c1_i32_232 : BitVec 32 := 1#32
  let v459 : BitVec 32 := Scalar.muli v456 c1_i32_232
  let v460 : BitVec 32 := Scalar.addi c0_i32_233 v459
  v460.toNat
def k0_off4 (d0 : Dev nD) (c1_i32_238 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v476 : BitVec 32 := Scalar.addi v2 c1_i32_238
  let c8_i32_239 : BitVec 32 := 8#32
  let c0_i32_240 : BitVec 32 := 0#32
  let v477 : BitVec 1 := Scalar.cmpi .eq c8_i32_239 c0_i32_240
  let c1_i32_241 : BitVec 32 := 1#32
  let v478 : BitVec 32 := Scalar.select v477 c1_i32_241 c8_i32_239
  let v479 : BitVec 32 := Scalar.remsi v476 v478
  let c0_i32_243 : BitVec 32 := 0#32
  let v481 : BitVec 1 := Scalar.cmpi .slt v479 c0_i32_243
  let c0_i32_244 : BitVec 32 := 0#32
  let v482 : BitVec 1 := Scalar.cmpi .slt v478 c0_i32_244
  let v483 : BitVec 1 := Scalar.xori v481 v482
  let c0_i32_242 : BitVec 32 := 0#32
  let v480 : BitVec 1 := Scalar.cmpi .ne v479 c0_i32_242
  let v484 : BitVec 1 := Scalar.andi v483 v480
  let v485 : BitVec 32 := Scalar.addi v479 v478
  let v486 : BitVec 32 := Scalar.select v484 v485 v479
  ![v486.toNat]
def k0_off5 (d0 : Dev nD) (c1_i32_238 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v476 : BitVec 32 := Scalar.addi v2 c1_i32_238
  let c8_i32_239 : BitVec 32 := 8#32
  let c0_i32_240 : BitVec 32 := 0#32
  let v477 : BitVec 1 := Scalar.cmpi .eq c8_i32_239 c0_i32_240
  let c1_i32_241 : BitVec 32 := 1#32
  let v478 : BitVec 32 := Scalar.select v477 c1_i32_241 c8_i32_239
  let v479 : BitVec 32 := Scalar.remsi v476 v478
  let c0_i32_243 : BitVec 32 := 0#32
  let v481 : BitVec 1 := Scalar.cmpi .slt v479 c0_i32_243
  let c0_i32_244 : BitVec 32 := 0#32
  let v482 : BitVec 1 := Scalar.cmpi .slt v478 c0_i32_244
  let v483 : BitVec 1 := Scalar.xori v481 v482
  let c0_i32_242 : BitVec 32 := 0#32
  let v480 : BitVec 1 := Scalar.cmpi .ne v479 c0_i32_242
  let v484 : BitVec 1 := Scalar.andi v483 v480
  let v485 : BitVec 32 := Scalar.addi v479 v478
  let v486 : BitVec 32 := Scalar.select v484 v485 v479
  let c256_i32_246 : BitVec 32 := 256#32
  let v488 : BitVec 32 := Scalar.muli v486 c256_i32_246
  let c0_i32_250 : BitVec 32 := 0#32
  ![v488.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S2048, .i32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S2048x512x1024, .f32⟩
  | .hbm, ⟨32, _⟩ => ⟨S2048x1024, .f32⟩
  | .hbm, ⟨33, _⟩ => ⟨S2048x1, .i1⟩
  | .hbm, ⟨34, _⟩ => ⟨S_, .f32⟩
  | .hbm, ⟨35, _⟩ => ⟨S_, .f32⟩
  | .hbm, ⟨36, _⟩ => ⟨S2048x1024, .i1⟩
  | .hbm, ⟨37, _⟩ => ⟨S2048x1024, .f32⟩
  | .hbm, ⟨38, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Blocks.lean ====
/-
# What each device computes, and the contents of the exchange buffer

The kernel's exchange buffer is 2048 rows of 1024 numbers in eight slots of 256 rows; slot `o` belongs to device `o`.
A device fills its own slot by eight stores of 32 rows (one per expert it holds), copies that slot into the same slot
of the seven other devices, and reads the whole buffer after their copies have landed. So at that point every device
holds the SAME contents, `comm` below: row `256 o + 32 j + r` is row `r` of the product device `o` stored for its
expert `j`. This file names the stored products (`blk`), `comm`, the slots as memrefs, and proves that the eight stores
leave the own slot at `comm`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore

@[expose] public section

noncomputable section

namespace Cert.MoE

open Cert.KernelIdeal Cert.KernelIdeal.Gen
open Idealize.ShloMosaic Idealize.ShloMosaic.TcCoe
open Idealize.SL.Sem

variable {F : FTy → Type} [FloatOps F]

/-! ## The peers -/

/-- The `i`-th other device of `c`, counting upwards around the mesh. -/
def peer (c : Dev nD) (i : Fin 7) : Dev nD := ⟨(c.val + i.val + 1) % 8, Nat.mod_lt _ (by decide)⟩
/-- The place of `c` among the peers of its `i`-th peer. -/
def back (i : Fin 7) : Fin 7 := ⟨6 - i.val, by omega⟩

theorem peer_back : ∀ (c : Dev nD) (i : Fin 7), peer (peer c i) (back i) = c := by decide +kernel
theorem back_back : ∀ i : Fin 7, back (back i) = i := by decide
theorem peer_ne : ∀ (c : Dev nD) (i : Fin 7), peer c i ≠ c := by decide +kernel
theorem peer_inj : ∀ (c : Dev nD), Function.Injective (peer c) := by decide +kernel
theorem others_eq : ∀ c : Dev nD, (Finset.univ.erase c : Finset (Dev nD)) = Finset.univ.map ⟨peer c, peer_inj c⟩ := by decide +kernel

/-! ## The memrefs -/

abbrev xM : Memref sig .tc .vmem S2048x512 .f32 := Memref.whole cc0_stg0_0
abbrev iM : Memref sig .tc .vmem S2048x1 .i32 := Memref.whole cc0_stg1_0
abbrev wM : Memref sig .tc .vmem S8x512x1024 .f32 := Memref.whole cc0_stg2_0
abbrev oM : Memref sig .tc .vmem S2048x1024 .f32 := Memref.whole cc0_stg3_0
abbrev commM : Memref sig .tc .vmem S2048x1024 .bf16 := Memref.whole cc0_scratch0
abbrev gM : Memref sig .tc .vmem S2048x2048 .bf16 := Memref.whole cc0_scratch1

theorem slot_inb : ∀ (o : Dev nD) (a : Fin 2), (![256 * o.val, 0] : Fin 2 → Nat) a + S256x1024.size a ≤ S2048x1024.size a := by decide +kernel
/-- Rows `256 o … 256 o + 255` of the exchange buffer. -/
abbrev slotR (o : Dev nD) : Rect S2048x1024 := Rect.unit (s := S2048x1024) ![256 * o.val, 0] S256x1024.size (slot_inb o)
abbrev slotM (o : Dev nD) : Memref sig .tc .vmem S256x1024 .bf16 := commM.slice (slotR o) (fun _ => rfl)
abbrev slotS (o : Dev nD) : Finset S2048x1024.Idx := (slotM o).view.set

theorem mem_slot {o : Dev nD} {i : S2048x1024.Idx} : i ∈ slotS o ↔ 256 * o.val ≤ (i 0).val ∧ (i 0).val < 256 * o.val + 256 := by
  have h : slotS o = (slotR o).set := View.set_slice_whole cc0_scratch0 (slotR o)
  rw [h, Rect.mem_set_unit, Fin.forall_fin_two]
  exact ⟨fun h => h.1, fun h => ⟨h, Nat.zero_le _, by simpa using (i 1).isLt⟩⟩

theorem slot_disjoint (o o' : Dev nD) (h : o ≠ o') : Disjoint (slotS o) (slotS o') :=
  Finset.disjoint_left.mpr fun i hi hi' => h (Fin.ext (by
    have h1 := mem_slot.mp hi; have h2 := mem_slot.mp hi'; omega))

theorem slot_cover : (Finset.univ : Finset (Dev nD)).biUnion slotS = Finset.univ := by
  ext i
  simp only [Finset.mem_biUnion, Finset.mem_univ, true_and, iff_true]
  have hi : (i 0).val < 2048 := (i 0).isLt
  exact ⟨⟨(i 0).val / 256, by change _ < 8; omega⟩, mem_slot.mpr ⟨by dsimp only; omega, by dsimp only; omega⟩⟩

/-! ## What is staged -/

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

def xAt (c : Dev nD) : (cc0_stg0_0 : Ref sig .tc).ty.Contents (Elt F) :=
  (win0_0.blk (0 : Fin 1)).view.read (Elt F) (m ((c : Thread nD τ).loc main_arg0))
def iAt (c : Dev nD) : (cc0_stg1_0 : Ref sig .tc).ty.Contents (Elt F) :=
  (win0_1.blk (0 : Fin 1)).view.read (Elt F) (m ((c : Thread nD τ).loc main_arg2))
def wAt (c : Dev nD) : (cc0_stg2_0 : Ref sig .tc).ty.Contents (Elt F) :=
  (win0_2.blk (0 : Fin 1)).view.read (Elt F) (m ((c : Thread nD τ).loc main_arg3))

/-! ## What is computed -/

/-- The device number the kernel works with. -/
abbrev me (c : Dev nD) : BitVec 32 := Scalar.remsi (Scalar.divsi (Dev.word c) 1#32) 8#32
abbrev eight : BitVec 32 := Scalar.select (Scalar.cmpi .eq 8#32 0#32) 1#32 8#32

section
variable (I : Vec F S2048x1 .i32)
abbrev ids : IVec S2048x1 32 := k0_pay1 I
abbrev rank : IVec S2048x1 32 := k0_pay5 (k0_pay2 I) (k0_pay3 I) (k0_pay4 I)
abbrev valid : IVec S2048x1 1 := k0_pay6 (k0_pay2 I) (k0_pay3 I) (k0_pay4 I)
/-- The exchange row each token's product is found in, or none. -/
abbrev rowOf : IVec S2048x1 32 :=
  k0_pay12 (rank I) (valid I) (k0_pay7 (ids I)) eight (k0_pay8 (ids I)) (k0_pay9 (ids I)) (k0_pay10 (ids I)) k0_pay11
/-- The tokens device number `d` works on, one per row of its slot. -/
abbrev pick (d : BitVec 32) (X : Vec F S2048x512 .f32) : FVec F S256x512 .f32 :=
  k0_pay13 d (rank I) (valid I) (k0_pay7 (ids I)) eight (k0_pay8 (ids I)) (k0_pay9 (ids I)) (k0_pay10 (ids I)) k0_pay11 X
abbrev pick1 (d : BitVec 32) (X : Vec F S2048x512 .f32) : FVec F S32x512 .bf16 :=
  k0_pay15 d (rank I) (valid I) (k0_pay7 (ids I)) eight (k0_pay8 (ids I)) (k0_pay9 (ids I)) (k0_pay10 (ids I)) k0_pay11 X
abbrev prod0 (d : BitVec 32) (X : Vec F S2048x512 .f32) (w : Vec F S1x512x1024 .f32) : FVec F S32x1024 .bf16 :=
  k0_pay14 d (rank I) (valid I) (k0_pay7 (ids I)) eight (k0_pay8 (ids I)) (k0_pay9 (ids I)) (k0_pay10 (ids I)) k0_pay11 X w
end

theorem wsl_inb : ∀ (j : Fin 8) (a : Fin 3), (![j.val, 0, 0] : Fin 3 → Nat) a + S1x512x1024.size a ≤ S8x512x1024.size a := by decide +kernel
/-- One expert's matrix of a staged block of eight. -/
def wsl (W : (cc0_stg2_0 : Ref sig .tc).ty.Contents (Elt F)) (j : Fin 8) : Vec F S1x512x1024 .f32 :=
  wM.view.readAt (Elt F) (Rect.unit (s := S8x512x1024) ![j.val, 0, 0] S1x512x1024.size (wsl_inb j)).toLoadRect W

/-- The product stored for expert `j`. -/
def blkOf (d : BitVec 32) (X : Vec F S2048x512 .f32) (I : Vec F S2048x1 .i32) (W : (cc0_stg2_0 : Ref sig .tc).ty.Contents (Elt F)) :
    Fin 8 → FVec F S32x1024 .bf16
  | 0 => prod0 I d X (wsl W 0)
  | 1 => k0_pay16 (pick1 I d X) (wsl W 1)
  | 2 => k0_pay17 (pick I d X) (wsl W 2)
  | 3 => k0_pay18 (pick I d X) (wsl W 3)
  | 4 => k0_pay19 (pick I d X) (wsl W 4)
  | 5 => k0_pay20 (pick I d X) (wsl W 5)
  | 6 => k0_pay22 (k0_pay21 (pick I d X) (wsl W 6))
  | 7 => k0_pay23 (pick I d X) (wsl W 7)

def blk (c : Dev nD) : Fin 8 → FVec F S32x1024 .bf16 := blkOf (me c) (xAt m c) (iAt m c) (wAt m c)

/-- The exchange buffer whose row `256 o + 32 j + r` is row `r` of `b o j`. -/
def commOf (b : Dev nD → Fin 8 → FVec F S32x1024 .bf16) : (cc0_scratch0 : Ref sig .tc).ty.Contents (Elt F) := fun (i : S2048x1024.Idx) =>
  have h : (i 0).val < 2048 := (i 0).isLt
  b ⟨(i 0).val / 256, by change _ < 8; omega⟩ ⟨(i 0).val % 256 / 32, by omega⟩
    (ValueIdx.ix2 (⟨(i 0).val % 32, Nat.mod_lt _ (by decide)⟩ : Fin 32) (i 1 : Fin 1024))
/-- The exchange buffer once every slot is filled. -/
def comm : (cc0_scratch0 : Ref sig .tc).ty.Contents (Elt F) := commOf (blk m)

/-- The selection matrix device `c` stores in its second scratch buffer, and its result. -/
def gAt (c : Dev nD) : (cc0_scratch1 : Ref sig .tc).ty.Contents (Elt F) := k0_pay24 (F := F) (rowOf (iAt m c))
def outAt (c : Dev nD) : (cc0_stg3_0 : Ref sig .tc).ty.Contents (Elt F) := k0_pay25 (gAt m c) (comm m)

/-! ## The eight stores -/

section
variable (b : Dev nD → Fin 8 → FVec F S32x1024 .bf16)

/-- The first `32 k` rows of slot `c` are filled. -/
def Filled (c : Dev nD) (k : ℕ) (f : (cc0_scratch0 : Ref sig .tc).ty.Contents (Elt F)) : Prop :=
  ∀ i : S2048x1024.Idx, 256 * c.val ≤ (i 0).val → (i 0).val < 256 * c.val + 32 * k → f i = commOf b i

theorem filled_zero (c : Dev nD) (f : (cc0_scratch0 : Ref sig .tc).ty.Contents (Elt F)) : Filled b c 0 f :=
  fun i h h' => absurd h' (by omega)

theorem filled_step (c : Dev nD) (j : Fin 8) {off : Fin 2 → Nat} (hoff : off = ![256 * c.val + 32 * j.val, 0])
    (inb : ∀ a, off a + S32x1024.size a ≤ S2048x1024.size a)
    (f : (cc0_scratch0 : Ref sig .tc).ty.Contents (Elt F)) (h : Filled b c j.val f) :
    Filled b c (j.val + 1) ((commM.access (Rect.unit (s := S2048x1024) off S32x1024.size inb)).write (Elt F) f (b c j) Finset.univ) := by
  subst hoff
  intro i h1 h2
  have hc : c.val < 8 := c.isLt
  by_cases hlt : (i 0).val < 256 * c.val + 32 * j.val
  · refine Eq.trans ?_ (h i h1 hlt)
    have hm : i ∉ (commM.access (Rect.unit (s := S2048x1024) ![256 * c.val + 32 * j.val, 0] S32x1024.size inb)).setOn Finset.univ := fun hm => by
      obtain ⟨x, -, hx⟩ := Finset.mem_map.mp hm
      have h0 : (i 0).val = 256 * c.val + 32 * j.val + 1 * (x 0).val := by rw [← hx]; rfl
      omega
    have hw := View.write_of_not_mem (v := commM.access (Rect.unit (s := S2048x1024) ![256 * c.val + 32 * j.val, 0] S32x1024.size inb))
      f (b c j) Finset.univ hm
    exact hw
  · have hr : (i 0).val - (256 * c.val + 32 * j.val) < 32 := by omega
    let x : S32x1024.Idx := ValueIdx.ix2 (⟨(i 0).val - (256 * c.val + 32 * j.val), hr⟩ : Fin 32) (i 1 : Fin 1024)
    have hx : (commM.access (Rect.unit (s := S2048x1024) ![256 * c.val + 32 * j.val, 0] S32x1024.size inb)).emb x = i := by
      refine funext fun a => Fin.ext ?_
      fin_cases a
      · show 256 * c.val + 32 * j.val + 1 * ((i 0).val - (256 * c.val + 32 * j.val)) = (i 0).val
        omega
      · show 0 + 1 * (i 1).val = (i 1).val
        omega
    have hw := View.write_emb_of_mem (v := commM.access (Rect.unit (s := S2048x1024) ![256 * c.val + 32 * j.val, 0] S32x1024.size inb))
      f (b c j) (M := Finset.univ) (Finset.mem_univ x)
    rw [hx] at hw
    refine hw.trans ?_
    show b c j x = commOf b i
    unfold commOf
    have e1 : (⟨(i 0).val / 256, by change _ < 8; have h : (i 0).val < 2048 := (i 0).isLt; omega⟩ : Dev nD) = c := Fin.ext (by
      show (i 0).val / 256 = c.val; omega)
    have e2 : (⟨(i 0).val % 256 / 32, by omega⟩ : Fin 8) = j := Fin.ext (by
      show (i 0).val % 256 / 32 = j.val; omega)
    have e3 : (⟨(i 0).val % 32, Nat.mod_lt _ (by decide)⟩ : Fin 32) = ⟨(i 0).val - (256 * c.val + 32 * j.val), hr⟩ := Fin.ext (by
      show (i 0).val % 32 = (i 0).val - (256 * c.val + 32 * j.val); omega)
    dsimp only
    rw [e1, e2, e3]

theorem filled_slot (c : Dev nD) (f : (cc0_scratch0 : Ref sig .tc).ty.Contents (Elt F)) (h : Filled b c 8 f) :
    ∀ i ∈ slotS c, f i = commOf b i := fun i hi =>
  h i (mem_slot.mp hi).1 (by have := (mem_slot.mp hi).2; omega)

end

/-- Copying a slot of a buffer over the same slot of another leaves that slot at the first buffer's contents. -/
theorem copied (o : Dev nD) (g f : (cc0_scratch0 : Ref sig .tc).ty.Contents (Elt F)) :
    ∀ i ∈ slotS o, (slotM o).view.write (Elt F) f ((slotM o).view.read (Elt F) g) Finset.univ i = g i := by
  intro i hi
  obtain ⟨x, -, rfl⟩ := Finset.mem_map.mp hi
  exact View.write_emb_of_mem (v := (slotM o).view) f _ (Finset.mem_univ x)

end Cert.MoE

end
-- ==== Proof.Protocol.lean ====
/-
# The exchange protocol

Three kinds of semaphore cells, one round each (round 0), duty names `Fin 7`.

* The barrier cell of device `c` has seven duties of one unit. Duty `j` is paid by `c`'s `j`-th peer, which hands over its
  own slot `c` of the exchange buffer (any contents): the place `c` will copy its slot to. `c` waits for all seven.
* Send cell `i` of device `c` has one duty, a slot's credit, paid by `c`'s copy to its `i`-th peer; it hands back the share
  of `c`'s own slot that copy read. `c` waits for each of the seven at the end.
* Receive cell `o` of device `c`, `o ≠ c`, has one duty, a slot's credit, paid by device `o`'s copy; it hands `c` its own
  slot `o`, now at `comm`. Receive cell `c` of device `c` is never used and has no duty.

A device owes its seven peers one barrier unit each and one slot's credit each; barrier cells have level 1, receive
cells level 2, and every other cell level 0, so a device waiting at its barrier only owes above it.
-/
module

public import proofs.«01_k».proof.Proof.Blocks
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
def sendS (i : Fin 7) : DmaSem sig := (⟨4 + i.val, by omega⟩ : Fin 19)
def recvS (o : Dev nD) : DmaSem sig := (⟨11 + o.val, by have h : o.val < 8 := o.isLt; omega⟩ : Fin 19)

/-- A device's own cells: the barrier's, the seven send cells, the eight receive cells. -/
abbrev CI : Type := Unit ⊕ (Fin 7 ⊕ Dev nD)
abbrev bI : CI := .inl ()
abbrev sI (i : Fin 7) : CI := .inr (.inl i)
abbrev rI (o : Dev nD) : CI := .inr (.inr o)

def csem : CI → SemLoc sig
  | .inl _ => .reg barS
  | .inr (.inl i) => .dma (sendS i)
  | .inr (.inr o) => .dma (recvS o)

abbrev kcell (ck : Dev nD × CI) : GSem nD τ sig := ((ck.1 : Thread nD τ), csem ck.2)
abbrev barCell (c : Dev nD) : GSem nD τ sig := ((c : Thread nD τ), .reg barS)
abbrev sendCell (c : Dev nD) (i : Fin 7) : GSem nD τ sig := ((c : Thread nD τ), .dma (sendS i))
abbrev recvCell (c o : Dev nD) : GSem nD τ sig := ((c : Thread nD τ), .dma (recvS o))

/-- What a semaphore is for. -/
inductive Role | bar | send (i : Fin 7) | recv (o : Fin 8) | other
  deriving DecidableEq

def role : SemLoc sig → Role
  | .reg _ => .bar
  | .dma q =>
    if h : (q : Fin 19).val < 4 then .other
    else if h' : (q : Fin 19).val < 11 then .send ⟨(q : Fin 19).val - 4, by omega⟩
    else .recv ⟨(q : Fin 19).val - 11, by have h'' : (q : Fin 19).val < 19 := (q : Fin 19).isLt; omega⟩

theorem role_bar : role (csem bI) = .bar := rfl
theorem role_send : ∀ i : Fin 7, role (csem (sI i)) = .send i := by decide
theorem role_recv : ∀ o : Dev nD, role (csem (rI o)) = .recv o := by decide

theorem csem_injective : Function.Injective csem := by
  rintro (⟨⟩ | i | o) (⟨⟩ | i' | o') h
  · rfl
  · cases h
  · cases h
  · cases h
  · have := (role_send i).symm.trans ((congrArg role h).trans (role_send i')); cases this; rfl
  · have := (role_send i).symm.trans ((congrArg role h).trans (role_recv o')); cases this
  · cases h
  · have := (role_recv o).symm.trans ((congrArg role h).trans (role_send i')); cases this
  · have := (role_recv o).symm.trans ((congrArg role h).trans (role_recv o')); cases this; rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- A slot's credit. -/
def N : ℕ := (slotM 0).view.dmaCredit
theorem N_pos : 0 < N := View.dmaCredit_pos _ (by decide)

/-! ## What is handed over -/

/-- Device `d`'s slot `o` of the exchange buffer. -/
def slotPts (d o : Dev nD) (q : PosShare TreeShare) (f : Buf (Elt F) ((d : Thread nD τ).loc cc0_scratch0)) : sProp 𝕄 :=
  ((d : Thread nD τ).loc cc0_scratch0) ↦[slotS o]{q} f

omit [FloatOps F] in
instance slotPts_storable (d o : Dev nD) (q : PosShare TreeShare) (f) : BI.Storable (upEmb : UEmb _ 𝕄) (slotPts (F := F) d o q f) := by
  unfold slotPts; infer_instance

abbrev tok (i : Fin 7) : PosShare TreeShare := Transfers.shareTok fullShare 7 i
abbrev qd : PosShare TreeShare := Transfers.shareDrop fullShare 7

/-! ## The schedule -/

def dutiesOf (c : Dev nD) : Role → Finset (Fin 7)
  | .bar => Finset.univ
  | .send _ => {0}
  | .recv o => if o = c then ∅ else {0}
  | .other => ∅
def amountOf : Role → ℕ
  | .bar => 1
  | _ => N
def payloadOf (c : Dev nD) (d : Fin 7) : Role → sProp 𝕄
  | .bar => iprop(∃ f, slotPts (peer c d) c fullShare f)
  | .send i => slotPts c c (tok i) (comm m)
  | .recv o => slotPts c o fullShare (comm m)
  | .other => iprop(emp)

def Rd : Rounds.Schedule (GSem nD τ sig) (Fin 7) 𝕄 where
  duties g r := if r = 0 ∧ g.1.2 = .tc then dutiesOf g.1.1 (role g.2) else ∅
  unitless _ := False
  amount g _ _ := amountOf (role g.2)
  payload g _ d := payloadOf m g.1.1 d (role g.2)
  amount_pos g _ _ _ := by
    cases role g.2 with
    | bar => exact Nat.one_pos
    | _ => exact N_pos

instance Rd_payload_storable (g : GSem nD τ sig) (r : ℕ) (d : Fin 7) : BI.Storable (upEmb : UEmb _ 𝕄) ((Rd (F := F) m).payload g r d) := by
  show BI.Storable upEmb (payloadOf m g.1.1 d (role g.2))
  cases role g.2 <;> (dsimp only [payloadOf]; infer_instance)

section Sched
variable (c : Dev nD)

theorem duties_at (k : CI) : (Rd (F := F) m).duties (kcell (c, k)) 0 = dutiesOf c (role (csem k)) := by
  dsimp only [Rd]; exact if_pos ⟨rfl, rfl⟩
theorem duties_bar : (Rd (F := F) m).duties (barCell c) 0 = Finset.univ := duties_at m c bI
theorem duties_send (i : Fin 7) : (Rd (F := F) m).duties (sendCell c i) 0 = {0} :=
  (duties_at m c (sI i)).trans (by rw [role_send]; rfl)
theorem duties_recv {o : Dev nD} (h : o ≠ c) : (Rd (F := F) m).duties (recvCell c o) 0 = {0} :=
  (duties_at m c (rI o)).trans (by rw [role_recv]; exact if_neg h)
theorem duties_recv_own : (Rd (F := F) m).duties (recvCell c c) 0 = ∅ :=
  (duties_at m c (rI c)).trans (by rw [role_recv]; exact if_pos rfl)
theorem duties_later (g : GSem nD τ sig) : ∀ r, 1 ≤ r → (Rd (F := F) m).duties g r = ∅ := fun r hr => by
  dsimp only [Rd]; exact if_neg fun h => by omega
theorem duties_recv_own_all : ∀ r, 0 ≤ r → (Rd (F := F) m).duties (recvCell c c) r = ∅ := fun r _ => by
  rcases r with _ | r
  · exact duties_recv_own m c
  · exact duties_later m _ _ (by omega)

theorem amount_bar (d : Fin 7) : (Rd (F := F) m).amount (barCell c) 0 d = 1 := rfl
theorem amount_send (i d : Fin 7) : (Rd (F := F) m).amount (sendCell c i) 0 d = N := by
  show amountOf (role (csem (sI i))) = N; rw [role_send]; rfl
theorem amount_recv (o : Dev nD) (d : Fin 7) : (Rd (F := F) m).amount (recvCell c o) 0 d = N := by
  show amountOf (role (csem (rI o))) = N; rw [role_recv]; rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (i : Fin 7) : (Rd (F := F) m).expect (sendCell c i) 0 = N := by
  unfold Schedule.expect Schedule.amountOf; rw [duties_send, Finset.sum_singleton, amount_send]
theorem expect_recv {o : Dev nD} (h : o ≠ c) : (Rd (F := F) m).expect (recvCell c o) 0 = N := by
  unfold Schedule.expect Schedule.amountOf; rw [duties_recv m c h, Finset.sum_singleton, amount_recv]

theorem payload_bar (d : Fin 7) : (Rd (F := F) m).payload (barCell c) 0 d = iprop(∃ f, slotPts (peer c d) c fullShare f) := rfl
theorem payload_send (i d : Fin 7) : (Rd (F := F) m).payload (sendCell c i) 0 d = slotPts c c (tok i) (comm m) := by
  show payloadOf m c d (role (csem (sI i))) = _; rw [role_send]; rfl
theorem payload_recv (o : Dev nD) (d : Fin 7) : (Rd (F := F) m).payload (recvCell c o) 0 d = slotPts c o fullShare (comm m) := by
  show payloadOf m c d (role (csem (rI o))) = _; rw [role_recv]; rfl

theorem rest_bar : bigSep ((Rd (F := F) m).duties (barCell c) 0 \ ∅) (fun d => (Rd (F := F) m).payload (barCell c) 0 d)
    = bigSep Finset.univ fun i : Fin 7 => iprop(∃ f, slotPts (F := F) (peer c i) c fullShare f) := by
  rw [Finset.sdiff_empty, duties_bar]; rfl
theorem rest_send (i : Fin 7) : bigSep ((Rd (F := F) m).duties (sendCell c i) 0 \ ∅) (fun d => (Rd (F := F) m).payload (sendCell c i) 0 d)
    = slotPts c c (tok i) (comm m) := by
  rw [Finset.sdiff_empty, duties_send, bigSep_singleton, payload_send]
theorem rest_recv {o : Dev nD} (h : o ≠ c) : bigSep ((Rd (F := F) m).duties (recvCell c o) 0 \ ∅) (fun d => (Rd (F := F) m).payload (recvCell c o) 0 d)
    = slotPts c o fullShare (comm m) := by
  rw [Finset.sdiff_empty, duties_recv m c h, bigSep_singleton, payload_recv]

end Sched

/-! ## What each device owes -/

/-- The last `n` of the seven copies' credits. -/
def owR (c : Dev nD) : ℕ → CellTallies nD τ sig Unit
  | 0 => 0
  | n + 1 => owR c n + tallyAt (recvCell (peer c ⟨6 - n, by omega⟩) c) () N
/-- All of them and the last `n` of the seven barrier units. -/
def owB (c : Dev nD) : ℕ → CellTallies nD τ sig Unit
  | 0 => owR c 7
  | n + 1 => owB c n + tallyAt (barCell (peer c ⟨6 - n, by omega⟩)) () 1
def O₀ (c : Dev nD) : CellTallies nD τ sig Unit := owB c 7

theorem owR_pos (c : Dev nD) : ∀ (n : ℕ) {g : GSem nD τ sig} {u : Unit}, 0 < owR c n g u → ∃ i : Fin 7, g = recvCell (peer c i) c
  | 0, g, u, h => absurd h (by show ¬ 0 < 0; omega)
  | n + 1, g, u, h => by
    unfold owR at h
    rw [Pi.add_apply, Finsupp.add_apply, tallyAt_apply] at h
    by_cases hg : g = recvCell (peer c ⟨6 - n, by omega⟩) c ∧ u = ()
    · exact ⟨_, hg.1⟩
    · rw [if_neg hg, Nat.add_zero] at h; exact owR_pos c n h

theorem owB_pos (c : Dev nD) : ∀ (n : ℕ) {g : GSem nD τ sig} {u : Unit}, 0 < owB c n g u →
    ∃ i : Fin 7, g = recvCell (peer c i) c ∨ g = barCell (peer c i)
  | 0, g, u, h => by obtain ⟨i, hi⟩ := owR_pos c 7 h; exact ⟨i, .inl hi⟩
  | n + 1, g, u, h => by
    unfold owB at h
    rw [Pi.add_apply, Finsupp.add_apply, tallyAt_apply] at h
    by_cases hg : g = barCell (peer c ⟨6 - n, by omega⟩) ∧ u = ()
    · exact ⟨_, .inr hg.1⟩
    · rw [if_neg hg, Nat.add_zero] at h; exact owB_pos c n h

theorem O₀_eq (c : Dev nD) : O₀ c = (∑ i : Fin 7, tallyAt (recvCell (peer c i) c) () N) + ∑ i : Fin 7, tallyAt (barCell (peer c i)) () 1 := by
  show ((((((((((((((0 : CellTallies nD τ sig Unit) + tallyAt (recvCell (peer c 6) c) () N) + tallyAt (recvCell (peer c 5) c) () N)
    + tallyAt (recvCell (peer c 4) c) () N) + tallyAt (recvCell (peer c 3) c) () N) + tallyAt (recvCell (peer c 2) c) () N)
    + tallyAt (recvCell (peer c 1) c) () N) + tallyAt (recvCell (peer c 0) c) () N)
    + tallyAt (barCell (peer c 6)) () 1) + tallyAt (barCell (peer c 5)) () 1) + tallyAt (barCell (peer c 4)) () 1)
    + tallyAt (barCell (peer c 3)) () 1) + tallyAt (barCell (peer c 2)) () 1) + tallyAt (barCell (peer c 1)) () 1)
    + tallyAt (barCell (peer c 0)) () 1 = _
  rw [Fin.sum_univ_seven, Fin.sum_univ_seven, zero_add]
  ac_rfl

/-! ## Levels -/

def L (g : GSem nD τ sig) : Finset Unit := if g.1.2 = .tc then {()} else ∅
def levOf : Role → ℕ
  | .bar => 1
  | .recv _ => 2
  | _ => 0
def lv (g : GSem nD τ sig) (_ : Unit) : ℕ := levOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c o : Dev nD) : lv (recvCell c o) () = 2 := by unfold lv; rw [show (recvCell c o).2 = csem (rI o) from rfl, role_recv]; rfl

omit [FloatOps F] in
theorem mayWait_stage (c : Dev nD) (q : DmaSem sig) (hq : levOf (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨i, rfl | rfl⟩ := owB_pos c 7 hg <;> exact Finset.mem_singleton_self _)
      (fun p hp => by rw [Finset.mem_singleton.mp hp]; exact le_of_eq hq)
      (fun g u hg => by
        obtain ⟨i, rfl | rfl⟩ := owB_pos c 7 hg
        · rw [lv_recv]; decide
        · rw [lv_bar]; decide)
  · rw [MayWait_zero]; iintro -; iempintro

omit [FloatOps F] in
theorem mayWait_bar (c : Dev nD) : (levAts L lv : sProp 𝕄) ⊢ MayWait (c : Thread nD τ) (.reg barS) () (owR c 7) :=
  MayOwe.of_cut (L := L) (lev := lv) 1 (fun p hp => by rw [Finset.mem_singleton.mp hp, L_tc]; exact Finset.mem_singleton_self _)
    (fun g u hg => by obtain ⟨i, rfl⟩ := owR_pos c 7 hg; exact Finset.mem_singleton_self _)
    (fun p hp => by rw [Finset.mem_singleton.mp hp]; exact le_of_eq (lv_bar c))
    (fun g u hg => by obtain ⟨i, rfl⟩ := owR_pos c 7 hg; rw [lv_recv]; decide)

/-! ## Big separating conjunctions -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Over the devices: this one and its seven peers. -/
theorem bigSep_dev (c : Dev nD) (Φ : Dev nD → sProp 𝕄) :
    bigSep Finset.univ Φ = iprop(Φ c ∗ bigSep Finset.univ fun i : Fin 7 => Φ (peer c i)) := by
  rw [BI.bigSep_univ_split c, others_eq c, BI.bigSep_map]; rfl

/-! ## The ghost state -/

/-- Every cell's invariant, at the names `K`, and that every cell is at round 0 at least. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (Rd m) (K ck) (kcell ck) := by
  have h : (bigSep Finset.univ fun ck : Dev nD × CI => (cellInv ER (Rd m) (K ck) (kcell ck) : sProp 𝕄)) ⊢ cellInv ER (Rd m) (K ck) (kcell ck) :=
    bigSep_elim (Finset.mem_univ ck)
  unfold records
  iintro ⟨H, -⟩
  iapply h; iexact H
theorem reached_at (K : Dev nD × CI → ℕ) (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H⟩
  iapply h; iexact H

section
variable (K : Dev nD × CI → ℕ) (c : Dev nD)
theorem inv_bar : records m K ⊢ cellInv ER (Rd m) (K (c, bI)) (barCell c) := inv_at m K (c, bI)
theorem inv_send (i : Fin 7) : records m K ⊢ cellInv ER (Rd m) (K (c, sI i)) (sendCell c i) := inv_at m K (c, sI i)
theorem inv_recv (o : Dev nD) : records m K ⊢ cellInv ER (Rd m) (K (c, rI o)) (recvCell c o) := inv_at m K (c, rI o)
theorem reached_bar : records m K ⊢ reached ER (barCell c) 0 := reached_at m K (c, bI)
theorem reached_send (i : Fin 7) : records m K ⊢ reached ER (sendCell c i) 0 := reached_at m K (c, sI i)
theorem reached_recv (o : Dev nD) : records m K ⊢ reached ER (recvCell c o) 0 := reached_at m K (c, rI o)
end

/-- The tokens of the duties device `c` pays. -/
def payToks (c : Dev nD) : sProp 𝕄 :=
  iprop((bigSep Finset.univ fun i : Fin 7 => dutyTok ER (barCell (peer c i)) 0 (back i))
    ∗ (bigSep Finset.univ fun i : Fin 7 => dutyTok ER (sendCell c i) 0 0)
    ∗ bigSep Finset.univ fun i : Fin 7 => dutyTok ER (recvCell (peer c i) c) 0 0)
/-- Its places at round 0 of its own cells. -/
def places (c : Dev nD) : sProp 𝕄 :=
  iprop(atPos ER (barCell c) 0 ∅ 0 ∗ (bigSep Finset.univ fun i : Fin 7 => atPos ER (sendCell c i) 0 ∅ 0)
    ∗ atPos ER (recvCell c c) 0 ∅ 0 ∗ bigSep Finset.univ fun i : Fin 7 => atPos ER (recvCell c (peer c i)) 0 ∅ 0)

def ghost (K : Dev nD × CI → ℕ) (c : Dev nD) : sProp 𝕄 := iprop(records m K ∗ places c ∗ payToks c)

/-- What device `c`'s body starts from besides its exchange and selection buffers. -/
def start (c : Dev nD) : sProp 𝕄 :=
  iprop((∃ K, ghost m K c) ∗ cred (tallyAt (barCell c) () 7)
    ∗ (bigSep Finset.univ fun i : Fin 7 => cred (tallyAt (recvCell c (peer c i)) () N)) ∗ levAts L lv)

end Cert.MoE

end
-- ==== Proof.Steps.lean ====
/-
# The steps of the exchange

One lemma per kind of operation of the body, at a symbolic device `c`: a signal to a peer, the barrier wait, the copy of the
own slot to a peer, the waits on the receive and send cells, and the stores into the own slot.
-/
module

public import proofs.«01_k».proof.Proof.Protocol

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited for so far. -/
def ow (c : Dev nD) (O : CellTallies nD τ sig Unit) : sProp 𝕄 := iprop(∃ W, owes (c : Thread nD τ) O W)

section
variable (K : Dev nD × CI → ℕ) (c : Dev nD)

/-! ## The barrier -/

/-- What device `c` signals its `i`-th peer with: the duty's token and its own slot of that peer. -/
def sigRes (f : Buf (Elt F) ((c : Thread nD τ).loc cc0_scratch0)) (i : Fin 7) : sProp 𝕄 :=
  iprop(dutyTok ER (barCell (peer c i)) 0 (back i) ∗ slotPts c (peer c i) fullShare f)

theorem wp_sig {α : Type} {Q : α → sProp (MT nD τ sig Unit (Elt F) ℕ UU ℕ)} {k : PUnit → Prog (TpuEff nD τ sig (Elt F) Λ₀ .tc) α} (i : Fin 7) (n : Dev nD) (hn : n = peer c i) {O₀ : CellTallies nD τ sig Unit} (O : CellTallies nD τ sig Unit)
    (hO : O₀ = O + tallyAt (barCell (peer c i)) () 1) (f : Buf (Elt F) ((c : Thread nD τ).loc cc0_scratch0)) :
    iprop(records m K ∗ ow c O₀ ∗ sigRes c f i)
      ⊢ iprop((ow c O -∗ WP c (k ⟨⟩) Q) -∗ WP c (.op (.semSignal (n : Thread nD τ) barS (1#32 : BitVec 32).toInt) k) Q) := by
  subst hn
  unfold ow sigRes
  iintro ⟨#HR, ⟨%W, HO⟩, Ht, Hs⟩ Hk
  iapply (Rounds.wp_signal 𝒱₀ ER (Rd m) (c : Thread nD τ) none (dst := (peer c i : Thread nD τ)) (κ := K (peer c i, bI))
      (d := back i) (by rw [duties_bar]; exact Finset.mem_univ _) (k' := 1) (amount_bar m (peer c i) (back i)) () O hO)
    $$ [HO Ht Hs]
  · isplitr; · iapply (inv_bar m K (peer c i)); iexact HR
    isplitl [HO]; · iexact HO
    isplitl [Ht]; · iexact Ht
    isplitl [Hs]
    · rw [payload_bar, peer_back]; iexists f; iexact Hs
    · iapply (reached_bar m K (peer c i)); iexact HR
  iintro HO
  iapply Hk
  iexists W; iexact HO

theorem wp_barwait {α : Type} {Q : α → sProp (MT nD τ sig Unit (Elt F) ℕ UU ℕ)} {k : PUnit → Prog (TpuEff nD τ sig (Elt F) Λ₀ .tc) α} :
    iprop(records m K ∗ cred (tallyAt (barCell c) () 7) ∗ ow c (owR c 7) ∗ levAts L lv ∗ atPos ER (barCell c) 0 ∅ 0)
      ⊢ iprop(((ow c (owR c 7) ∗ atPos ER (barCell c) 1 ∅ 0 ∗ bigSep Finset.univ fun i : Fin 7 => iprop(∃ f, slotPts (F := F) (peer c i) c fullShare f))
          -∗ WP c (k ⟨⟩) Q) -∗ WP c (.op (.semWait barS (7#32 : BitVec 32).toInt) k) Q) := by
  unfold ow
  iintro ⟨#HR, Hc, ⟨%W, HO⟩, #Hlev, Hat⟩ Hk
  iapply (Rounds.wp_wait_rest_token 𝒱₀ ER (Rd m) (c : Thread nD τ) none (κ := K (c, bI))
      (wpE_semWait_eq 𝒱₀ (c : Thread nD τ) none Set.univ) (Set.mem_univ _) () (O := owR c 7) (W := W) (R := 0) (m := 0) (T := ∅) (k' := 7)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## The copies -/

/-- What device `c` copies its slot to its `i`-th peer with: the two duties' tokens, that share of the slot, and the
    peer's slot `c`. -/
def sendRes (i : Fin 7) : sProp 𝕄 :=
  iprop(dutyTok ER (sendCell c i) 0 0 ∗ dutyTok ER (recvCell (peer c i) c) 0 0 ∗ slotPts c c (tok i) (comm m) ∗ ∃ f, slotPts (peer c i) c fullShare f)

theorem wp_send {α : Type} {Q : α → sProp (MT nD τ sig Unit (Elt F) ℕ UU ℕ)} {k : PUnit → Prog (TpuEff nD τ sig (Elt F) Λ₀ .tc) α} (i : Fin 7) (n : Dev nD) (hn : n = peer c i) {off : Fin 2 → Nat} (hoff : off = ![256 * c.val, 0])
    (inb : ∀ a, off a + S256x1024.size a ≤ S2048x1024.size a) {s r : DmaSem sig} (hs : s = sendS i) (hr : r = recvS c)
    {hsc : (commM.slice (Rect.unit (s := S2048x1024) off S256x1024.size inb) (fun _ => rfl) : Memref sig (Dev.tc n : Thread nD τ).2.kind .vmem S256x1024 .bf16).view.ref.isScScratch = false}
    {hsrc : (commM.slice (Rect.unit (s := S2048x1024) off S256x1024.size inb) (fun _ => rfl) : Memref sig .tc .vmem S256x1024 .bf16).view.WordExact}
    {hdst : (commM.slice (Rect.unit (s := S2048x1024) off S256x1024.size inb) (fun _ => rfl) : Memref sig .tc .vmem S256x1024 .bf16).view.WordExact}
    {hsem : DmaTarget.Typed .vmem (.dma r) (.remote (Dev.tc n : Thread nD τ) (commM.slice (Rect.unit (s := S2048x1024) off S256x1024.size inb) (fun _ => rfl) : Memref sig .tc .vmem S256x1024 .bf16) (.dma s) hsc)}
    {O₀ : CellTallies nD τ sig Unit} (O : CellTallies nD τ sig Unit) (hO : O₀ = O + tallyAt (recvCell (peer c i) c) () N) :
    iprop(records m K ∗ ow c O₀ ∗ sendRes m c i)
      ⊢ iprop(((cred (tallyAt (sendCell c i) () N) ∗ ow c O) -∗ WP c (k ⟨⟩) Q)
          -∗ WP c (.op (.enqueueDma (commM.slice (Rect.unit (s := S2048x1024) off S256x1024.size inb) (fun _ => rfl) : Memref sig .tc .vmem S256x1024 .bf16)
            (.remote (Dev.tc n : Thread nD τ) (commM.slice (Rect.unit (s := S2048x1024) off S256x1024.size inb) (fun _ => rfl) : Memref sig .tc .vmem S256x1024 .bf16) (.dma s) hsc)
            (.dma r) hsrc hdst hsem) k) Q) := by
  subst hn hoff hs hr
  unfold ow sendRes
  iintro ⟨#HR, ⟨%W, HO⟩, Ht1, Ht2, Hs, ⟨%fd, Hd⟩⟩ Hk
  iapply (Rounds.wp_send_pointsTo 𝒱₀ ER (Rd m) (c : Thread nD τ) none (κ₁ := K (c, sI i)) (κ₂ := K (peer c i, rI c)) (c' := (peer c i : Thread nD τ))
      (src := slotM c) (dst := slotM c) (q := tok i) (fs := comm m) (fd := fd)
      (r₁ := 0) (r₂ := 0) (d₁ := 0) (d₂ := 0)
      (by rw [duties_send]; exact Finset.mem_singleton_self _)
      (by rw [duties_recv m _ (peer_ne c i).symm]; exact Finset.mem_singleton_self _)
      () () N rfl (amount_send m c i 0) (amount_recv m (peer c i) c 0) O hO (W := W)
      (by rw [payload_send]; exact BI.Entails.refl _)
      (by
        rw [payload_recv]
        exact Entails.of_eq (pointsTo_congr (copied c (comm m) fd))))
    $$ [HO Ht1 Ht2 Hs Hd]
  · isplitr; · iapply (inv_send m K c i); iexact HR
    isplitr; · iapply (inv_recv m K (peer c i) c); iexact HR
    isplitl [Hs]; · unfold slotPts; iexact Hs
    isplitl [Hd]; · unfold slotPts; iexact Hd
    isplitl [HO]; · iexact HO
    isplitl [Ht1]; · iexact Ht1
    isplitr; · iapply (reached_send m K c i); iexact HR
    isplitl [Ht2]; · iexact Ht2
    iapply (reached_recv m K (peer c i) c); iexact HR
  iintro ⟨Hc, HO⟩
  iapply Hk
  isplitl [Hc]; · iexact Hc
  iexists W; iexact HO

/-- The wait on the receive cell of the `i`-th peer: that peer's slot, filled. -/
theorem wp_recvwait {α : Type} {Q : α → sProp (MT nD τ sig Unit (Elt F) ℕ UU ℕ)} {k : PUnit → Prog (TpuEff nD τ sig (Elt F) Λ₀ .tc) α} (i : Fin 7) {off : Fin 2 → Nat} (inb : ∀ a, off a + S256x1024.size a ≤ S2048x1024.size a)
    {r : DmaSem sig} (hr : r = recvS (peer c i))
    {h1 h2 : (commM.slice (Rect.unit (s := S2048x1024) off S256x1024.size inb) (fun _ => rfl) : Memref sig .tc .vmem S256x1024 .bf16).view.WordExact} :
    iprop(records m K ∗ cred (tallyAt (recvCell c (peer c i)) () N) ∗ ow c 0 ∗ atPos ER (recvCell c (peer c i)) 0 ∅ 0)
      ⊢ iprop(((ow c 0 ∗ atPos ER (recvCell c (peer c i)) 1 ∅ 0 ∗ slotPts c (peer c i) fullShare (comm m)) -∗ WP c (k ⟨⟩) Q)
          -∗ WP c (.op (.waitDma2 r (commM.slice (Rect.unit (s := S2048x1024) off S256x1024.size inb) (fun _ => rfl) : Memref sig .tc .vmem S256x1024 .bf16)
            (commM.slice (Rect.unit (s := S2048x1024) off S256x1024.size inb) (fun _ => rfl) : Memref sig .tc .vmem S256x1024 .bf16) h1 h2) k) Q) := by
  subst hr
  rw [show N = (commM.slice (Rect.unit (s := S2048x1024) off S256x1024.size inb) (fun _ => rfl) : Memref sig .tc .vmem S256x1024 .bf16).view.dmaCredit from rfl]
  unfold ow
  iintro ⟨#HR, Hc, ⟨%W, HO⟩, Hat⟩ Hk
  iapply (Rounds.wp_wait_rest_token 𝒱₀ ER (Rd m) (c : Thread nD τ) none (κ := K (c, rI (peer c i)))
      (wpE_waitDma2_eq 𝒱₀ (c : Thread nD τ) none Set.univ) (Set.mem_univ _) () (O := 0) (W := W) (R := 0) (m := 0) (T := ∅)
      (by rw [expect_recv m c (peer_ne c i)]; exact Nat.zero_add _)) $$ [Hc HO Hat]
  · isplitr; · iapply (inv_recv m K c (peer c i)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c (peer_ne c i))) $$ Hpay
  iapply Hk
  isplitl [HO]; · iexists _; iexact HO
  isplitl [Hat]; · iexact Hat
  iexact Hp

/-- The wait on the `i`-th send cell: the share of the own slot that copy read. -/
theorem wp_sendwait {α : Type} {Q : α → sProp (MT nD τ sig Unit (Elt F) ℕ UU ℕ)} {k : PUnit → Prog (TpuEff nD τ sig (Elt F) Λ₀ .tc) α} (i : Fin 7) {off : Fin 2 → Nat} (inb : ∀ a, off a + S256x1024.size a ≤ S2048x1024.size a)
    {r : DmaSem sig} (hr : r = sendS i)
    {h1 h2 : (commM.slice (Rect.unit (s := S2048x1024) off S256x1024.size inb) (fun _ => rfl) : Memref sig .tc .vmem S256x1024 .bf16).view.WordExact} :
    iprop(records m K ∗ cred (tallyAt (sendCell c i) () N) ∗ ow c 0 ∗ atPos ER (sendCell c i) 0 ∅ 0)
      ⊢ iprop(((ow c 0 ∗ atPos ER (sendCell c i) 1 ∅ 0 ∗ slotPts c c (tok i) (comm m)) -∗ WP c (k ⟨⟩) Q)
          -∗ WP c (.op (.waitDma2 r (commM.slice (Rect.unit (s := S2048x1024) off S256x1024.size inb) (fun _ => rfl) : Memref sig .tc .vmem S256x1024 .bf16)
            (commM.slice (Rect.unit (s := S2048x1024) off S256x1024.size inb) (fun _ => rfl) : Memref sig .tc .vmem S256x1024 .bf16) h1 h2) k) Q) := by
  subst hr
  rw [show N = (commM.slice (Rect.unit (s := S2048x1024) off S256x1024.size inb) (fun _ => rfl) : Memref sig .tc .vmem S256x1024 .bf16).view.dmaCredit from rfl]
  unfold ow
  iintro ⟨#HR, Hc, ⟨%W, HO⟩, Hat⟩ Hk
  iapply (Rounds.wp_wait_rest_token 𝒱₀ ER (Rd m) (c : Thread nD τ) none (κ := K (c, sI i))
      (wpE_waitDma2_eq 𝒱₀ (c : Thread nD τ) none Set.univ) (Set.mem_univ _) () (O := 0) (W := W) (R := 0) (m := 0) (T := ∅)
      (by rw [expect_send m c i]; exact Nat.zero_add _)) $$ [Hc HO Hat]
  · isplitr; · iapply (inv_send m K c i); iexact HR
    isplitl [Hc]; · iexact Hc
    isplitl [HO]; · iexact HO
    isplitr; · rw [MayWait_zero]; iempintro
    iexact Hat
  iintro ⟨HO, Hat, -, Hpay⟩
  ihave Hp := (Entails.of_eq (rest_send m c i)) $$ Hpay
  iapply Hk
  isplitl [HO]; · iexists _; iexact HO
  isplitl [Hat]; · iexact Hat
  iexact Hp

end

/-! ## The own slot -/

/-- The own slot with its first `32 k` rows filled. -/
def own (c : Dev nD) (k : ℕ) : sProp 𝕄 := iprop(∃ f, ⌜Filled (blk m) c k f⌝ ∗ slotPts c c fullShare f)

theorem rows_sub (c : Dev nD) (j : Fin 8) {off : Fin 2 → Nat} (hoff : off = ![256 * c.val + 32 * j.val, 0])
    (inb : ∀ a, off a + S32x1024.size a ≤ S2048x1024.size a) :
    commM.view.setOn (Rect.unit (s := S2048x1024) off S32x1024.size inb).set ⊆ slotS c := by
  subst hoff
  intro i hi
  obtain ⟨x, hx, rfl⟩ := Finset.mem_map.mp hi
  rw [Rect.mem_set_unit] at hx
  refine mem_slot.mpr ?_
  have h0 : 256 * c.val + 32 * j.val ≤ (x 0).val ∧ (x 0).val < 256 * c.val + 32 * j.val + 32 := hx 0
  have hj := j.isLt
  show 256 * c.val ≤ (x 0).val ∧ (x 0).val < 256 * c.val + 256
  omega

section
variable (c : Dev nD) (j : Fin 8) {off : Fin 2 → Nat} (hoff : off = ![256 * c.val + 32 * j.val, 0])
variable (inb : ∀ a, off a + S32x1024.size a ≤ S2048x1024.size a)

include hoff in
/-- A load of rows of the own slot whose value is not used. -/
theorem wp_peek {α : Type} {Q : α → sProp (MT nD τ sig Unit (Elt F) ℕ UU ℕ)} {n : ℕ} {hl : commM.view.LoadsAt (Rect.unit (s := S2048x1024) off S32x1024.size inb).toLoadRect}
    {k : (S32x1024.Idx → Elt F .bf16) → Prog (TpuEff nD τ sig (Elt F) Λ₀ .tc) α} :
    own m c n ⊢ iprop((∀ v, own m c n -∗ WP c (k v) Q)
      -∗ WP c (.op (.load commM (Rect.unit (s := S2048x1024) off S32x1024.size inb).toLoadRect hl) k) Q) := by
  unfold own
  iintro ⟨%f, %hf, Hs⟩ Hk
  unfold slotPts
  iapply (wp_load 𝒱₀ (c : Thread nD τ) none Set.univ (m := commM) (rows_sub c j hoff inb)) $$ Hs
  iintro Hs
  iapply Hk
  iexists f
  isplitr; · (ipureintro; exact hf)
  iexact Hs

include hoff in
/-- The store of expert `j`'s product. -/
theorem wp_fill {α : Type} {Q : α → sProp (MT nD τ sig Unit (Elt F) ℕ UU ℕ)} {w : FVec F S32x1024 .bf16} (hw : w = blk m c j)
    {hx : (commM.access (Rect.unit (s := S2048x1024) off S32x1024.size inb)).Stores Finset.univ}
    {hm : (Finset.univ : Finset (Rect.unit (s := S2048x1024) off S32x1024.size inb).shape.Idx) = Finset.univ ∨ ∀ a, (Rect.unit (s := S2048x1024) off S32x1024.size inb).stride a = 1}
    {k : PUnit → Prog (TpuEff nD τ sig (Elt F) Λ₀ .tc) α} :
    own m c j.val ⊢ iprop((own m c (j.val + 1) -∗ WP c (k ⟨⟩) Q)
      -∗ WP c (.op (.store commM (Rect.unit (s := S2048x1024) off S32x1024.size inb) w Finset.univ hx hm) k) Q) := by
  subst hw
  unfold own
  iintro ⟨%f, %hf, Hs⟩ Hk
  unfold slotPts
  iapply (wp_store 𝒱₀ (c : Thread nD τ) none Set.univ (m := commM) (r := Rect.unit (s := S2048x1024) off S32x1024.size inb)
    (Mk := Finset.univ) (w := blk m c j) (f := f) (S := slotS c) (by
      refine le_trans (le_of_eq ?_) (rows_sub c j hoff inb)
      exact (View.set_slice_whole cc0_scratch0 _).trans (by rw [View.setOn]; exact (Finset.map_refl).symm))) $$ Hs
  iintro Hs
  iapply Hk
  iexists ((commM.access (Rect.unit (s := S2048x1024) off S32x1024.size inb)).write (Elt F) f (blk m c j) Finset.univ)
  isplitr
  · ipureintro; exact filled_step (blk m) c j hoff inb f hf
  iexact Hs

end

end Cert.MoE

end
-- ==== Proof.Parts.lean ====
/-
# The body, part by part

One lemma per part of the printed body: from what the part uses (and a remainder `R` it does not touch) to what it leaves,
at a symbolic device `c`.
-/
module

public import proofs.«01_k».proof.Proof.Steps

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The printed device numbers, offsets and semaphores -/

theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 3 := by decide +kernel
theorem dev5_eq : ∀ c : Dev nD, (⟨k0_dev5 c, k0_dev5_lt c⟩ : Dev nD) = peer c 4 := by decide +kernel
theorem dev6_eq : ∀ c : Dev nD, (⟨k0_dev6 c, k0_dev6_lt c⟩ : Dev nD) = peer c 5 := by decide +kernel
theorem dev7_eq : ∀ c : Dev nD, (⟨k0_dev7 c, k0_dev7_lt c⟩ : Dev nD) = peer c 6 := by decide +kernel
theorem dev8_eq : ∀ c : Dev nD, (⟨k0_dev8 c, k0_dev8_lt c⟩ : Dev nD) = peer c 0 := by decide +kernel
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel
theorem off1_eq (c : Dev nD) (j : Fin 8) : k0_off1 c (BitVec.ofNat 32 (32 * j.val)) = ![256 * c.val + 32 * j.val, 0] := k0_off1_eq c j
theorem ssem0 : ((cc0_scratch2.slice (Rect.unit (s := S7) ![0] S1.size inb_S7_S1_0)).squeeze S_ squeezes_S1_S_).sem = sendS 0 := by decide +kernel
theorem ssem1 : ((cc0_scratch2.slice (Rect.unit (s := S7) ![1] S1.size inb_S7_S1_1)).squeeze S_ squeezes_S1_S_).sem = sendS 1 := by decide +kernel
theorem ssem2 : ((cc0_scratch2.slice (Rect.unit (s := S7) ![2] S1.size inb_S7_S1_2)).squeeze S_ squeezes_S1_S_).sem = sendS 2 := by decide +kernel
theorem ssem3 : ((cc0_scratch2.slice (Rect.unit (s := S7) ![3] S1.size inb_S7_S1_3)).squeeze S_ squeezes_S1_S_).sem = sendS 3 := by decide +kernel
theorem ssem4 : ((cc0_scratch2.slice (Rect.unit (s := S7) ![4] S1.size inb_S7_S1_4)).squeeze S_ squeezes_S1_S_).sem = sendS 4 := by decide +kernel
theorem ssem5 : ((cc0_scratch2.slice (Rect.unit (s := S7) ![5] S1.size inb_S7_S1_5)).squeeze S_ squeezes_S1_S_).sem = sendS 5 := by decide +kernel
theorem ssem6 : ((cc0_scratch2.slice (Rect.unit (s := S7) ![6] S1.size inb_S7_S1_6)).squeeze S_ squeezes_S1_S_).sem = sendS 6 := by decide +kernel
theorem rsem : ∀ c : Dev nD, ((cc0_scratch3.slice (Rect.unit (s := S8) (k0_off2 c) S1.size (k0_off2_inb c))).squeeze S_ squeezes_S1_S_).sem = recvS c := by decide +kernel
theorem wsem : ∀ (c : Dev nD) (i : Fin 7), ((cc0_scratch3.slice (Rect.unit (s := S8) (k0_off4 c (BitVec.ofNat 32 (1 + i.val))) S1.size (k0_off4_inb c i))).squeeze S_ squeezes_S1_S_).sem = recvS (peer c i) := by decide +kernel

theorem hz2 : (![0, 0] : Fin 2 → Nat) = fun _ => 0 := funext fun a => by fin_cases a <;> rfl

/-! ## The buffers -/

section
variable (c : Dev nD)
abbrev xPts : sProp (MT nD τ sig Unit (Elt F) ℕ UU ℕ) := ((c : Thread nD τ).loc cc0_stg0_0) ↦{fullShare} xAt m c
abbrev iPts : sProp (MT nD τ sig Unit (Elt F) ℕ UU ℕ) := ((c : Thread nD τ).loc cc0_stg1_0) ↦{fullShare} iAt m c
abbrev wPts : sProp (MT nD τ sig Unit (Elt F) ℕ UU ℕ) := ((c : Thread nD τ).loc cc0_stg2_0) ↦{fullShare} wAt m c
abbrev oPts (f : Buf (Elt F) ((c : Thread nD τ).loc cc0_stg3_0)) : sProp (MT nD τ sig Unit (Elt F) ℕ UU ℕ) := ((c : Thread nD τ).loc cc0_stg3_0) ↦{fullShare} f
abbrev gPts (f : Buf (Elt F) ((c : Thread nD τ).loc cc0_scratch1)) : sProp (MT nD τ sig Unit (Elt F) ℕ UU ℕ) := ((c : Thread nD τ).loc cc0_scratch1) ↦{fullShare} f
def commPts (q : PosShare TreeShare) (f : Buf (Elt F) ((c : Thread nD τ).loc cc0_scratch0)) : sProp (MT nD τ sig Unit (Elt F) ℕ UU ℕ) :=
  ((c : Thread nD τ).loc cc0_scratch0) ↦{q} f

/-- The whole exchange buffer is its own slot and the seven peers'. -/
theorem commPts_eq (q : PosShare TreeShare) (f : Buf (Elt F) ((c : Thread nD τ).loc cc0_scratch0)) :
    commPts c q f = iprop(slotPts c c q f ∗ bigSep Finset.univ fun i : Fin 7 => slotPts c (peer c i) q f) := by
  unfold commPts
  rw [Ring.pointsTo_blocks (ℓ := (c : Thread nD τ).loc cc0_scratch0) (fun o : Dev nD => slotS o) (fun o o' h => slot_disjoint o o' h) slot_cover f]
  exact bigSep_dev c (fun o => slotPts c o q f)

/-- What the wait for a peer's slot needs, and what it leaves; -/
def recvRes (i : Fin 7) : sProp (MT nD τ sig Unit (Elt F) ℕ UU ℕ) := iprop(cred (tallyAt (recvCell c (peer c i)) () N) ∗ atPos ER (recvCell c (peer c i)) 0 ∅ 0)
def gotRes (i : Fin 7) : sProp (MT nD τ sig Unit (Elt F) ℕ UU ℕ) := iprop(atPos ER (recvCell c (peer c i)) 1 ∅ 0 ∗ slotPts c (peer c i) fullShare (comm m))
/-- and the same for the wait on a send cell. -/
def backRes (i : Fin 7) : sProp (MT nD τ sig Unit (Elt F) ℕ UU ℕ) := iprop(cred (tallyAt (sendCell c i) () N) ∗ atPos ER (sendCell c i) 0 ∅ 0)
def doneRes (i : Fin 7) : sProp (MT nD τ sig Unit (Elt F) ℕ UU ℕ) := iprop(atPos ER (sendCell c i) 1 ∅ 0 ∗ slotPts c c (tok i) (comm m))

theorem slot_toks (d o : Dev nD) (f : Buf (Elt F) ((d : Thread nD τ).loc cc0_scratch0)) :
    slotPts d o fullShare f = iprop(slotPts d o qd f ∗ bigSep Finset.univ fun i : Fin 7 => slotPts d o (tok i) f) := by
  unfold slotPts
  exact BI.Entails.antisymm (Transfers.pointsTo_toks_split fullShare 7) (Transfers.pointsTo_toks_join fullShare 7)

/-- The load of the whole exchange buffer, while the copies of the own slot may still be reading it. -/
theorem wp_gather {α : Type} {Q : α → sProp (MT nD τ sig Unit (Elt F) ℕ UU ℕ)}
    {hl : commM.view.LoadsAt (Rect.unit (s := S2048x1024) ![0, 0] S2048x1024.size inb_S2048x1024_S2048x1024_0_0).toLoadRect}
    {k : (S2048x1024.Idx → Elt F .bf16) → Prog (TpuEff nD τ sig (Elt F) Λ₀ .tc) α} :
    iprop(slotPts c c qd (comm m) ∗ bigSep Finset.univ fun i : Fin 7 => slotPts c (peer c i) fullShare (comm m))
      ⊢ iprop(((slotPts c c qd (comm m) ∗ bigSep Finset.univ fun i : Fin 7 => slotPts c (peer c i) fullShare (comm m)) -∗ WP c (k (comm m)) Q)
        -∗ WP c (.op (.load commM (Rect.unit (s := S2048x1024) ![0, 0] S2048x1024.size inb_S2048x1024_S2048x1024_0_0).toLoadRect hl) k) Q) := by
  have e : (bigSep Finset.univ fun i : Fin 7 => slotPts c (peer c i) fullShare (comm m))
      = iprop((bigSep Finset.univ fun i : Fin 7 => slotPts c (peer c i) qd (comm m))
        ∗ bigSep Finset.univ fun i : Fin 7 => bigSep Finset.univ fun j : Fin 7 => slotPts c (peer c i) (tok j) (comm m)) := by
    rw [← bigSep_sep']; exact bigSep_congr fun i _ => slot_toks c (peer c i) (comm m)
  rw [e]
  iintro ⟨HS, HA, HB⟩ Hk
  ihave HC := (Entails.of_eq (commPts_eq c qd (comm m)).symm) $$ [HS HA]
  · isplitl [HS] <;> iassumption
  unfold commPts
  iapply (wp_load 𝒱₀ (c : Thread nD τ) none Set.univ (m := commM) (Finset.subset_univ _)) $$ HC; iintro HC
  rw [show commM.view.readAt (Elt F) _ (comm m) = comm m from Memref.readAt_unit_zero (Elt F) cc0_scratch0 hz2 _ _]
  ihave HC' := (Entails.of_eq (commPts_eq c qd (comm m))) $$ [HC]
  · unfold commPts; iexact HC
  icases HC' with ⟨HS, HA⟩
  iapply Hk
  isplitl [HS]; · iexact HS
  isplitl [HA] <;> iassumption

end

/-! ## The parts -/

section
variable (K : Dev nD × CI → ℕ) (c : Dev nD)

theorem WP_ret {α : Type} (a : α) (Q : α → sProp (MT nD τ sig Unit (Elt F) ℕ UU ℕ)) : WP c (Prog.ret a) Q = iprop(|={Set.univ}=> Q a) := rfl

theorem wp_put (n : ℕ) (j : Fin 8) (hn : j.val = n) {off : Fin 2 → Nat} (hoff : off = ![256 * c.val + 32 * j.val, 0])
    (inb : ∀ a, off a + S32x1024.size a ≤ S2048x1024.size a) {α : Type} {Q : α → sProp (MT nD τ sig Unit (Elt F) ℕ UU ℕ)} {w : FVec F S32x1024 .bf16} (hw : w = blk m c j)
    {hx : (commM.access (Rect.unit (s := S2048x1024) off S32x1024.size inb)).Stores Finset.univ}
    {hm : (Finset.univ : Finset (Rect.unit (s := S2048x1024) off S32x1024.size inb).shape.Idx) = Finset.univ ∨ ∀ a, (Rect.unit (s := S2048x1024) off S32x1024.size inb).stride a = 1}
    {k : PUnit → Prog (TpuEff nD τ sig (Elt F) Λ₀ .tc) α} :
    own m c n ⊢ iprop((own m c (n + 1) -∗ WP c (k ⟨⟩) Q)
      -∗ WP c (.op (.store commM (Rect.unit (s := S2048x1024) off S32x1024.size inb) w Finset.univ hx hm) k) Q) := by
  subst hn; exact wp_fill m c j hoff inb hw

theorem wp_recv {α : Type} {Q : α → sProp (MT nD τ sig Unit (Elt F) ℕ UU ℕ)} {k : PUnit → Prog (TpuEff nD τ sig (Elt F) Λ₀ .tc) α} (i : Fin 7) {off : Fin 2 → Nat} (inb : ∀ a, off a + S256x1024.size a ≤ S2048x1024.size a)
    {r : DmaSem sig} (hr : r = recvS (peer c i))
    {h1 h2 : (commM.slice (Rect.unit (s := S2048x1024) off S256x1024.size inb) (fun _ => rfl) : Memref sig .tc .vmem S256x1024 .bf16).view.WordExact} :
    iprop(records m K ∗ recvRes c i ∗ ow c 0)
      ⊢ iprop(((ow c 0 ∗ gotRes m c i) -∗ WP c (k ⟨⟩) Q)
          -∗ WP c (.op (.waitDma2 r (commM.slice (Rect.unit (s := S2048x1024) off S256x1024.size inb) (fun _ => rfl) : Memref sig .tc .vmem S256x1024 .bf16)
            (commM.slice (Rect.unit (s := S2048x1024) off S256x1024.size inb) (fun _ => rfl) : Memref sig .tc .vmem S256x1024 .bf16) h1 h2) k) Q) := by
  unfold recvRes gotRes
  iintro ⟨HR, ⟨HC, HA⟩, HO⟩
  iapply (wp_recvwait m K c i inb hr)
  isplitl [HR]; · iexact HR
  isplitl [HC]; · iexact HC
  isplitl [HO] <;> iassumption

theorem wp_back {α : Type} {Q : α → sProp (MT nD τ sig Unit (Elt F) ℕ UU ℕ)} {k : PUnit → Prog (TpuEff nD τ sig (Elt F) Λ₀ .tc) α} (i : Fin 7) {off : Fin 2 → Nat} (inb : ∀ a, off a + S256x1024.size a ≤ S2048x1024.size a)
    {r : DmaSem sig} (hr : r = sendS i)
    {h1 h2 : (commM.slice (Rect.unit (s := S2048x1024) off S256x1024.size inb) (fun _ => rfl) : Memref sig .tc .vmem S256x1024 .bf16).view.WordExact} :
    iprop(records m K ∗ backRes c i ∗ ow c 0)
      ⊢ iprop(((ow c 0 ∗ doneRes m c i) -∗ WP c (k ⟨⟩) Q)
          -∗ WP c (.op (.waitDma2 r (commM.slice (Rect.unit (s := S2048x1024) off S256x1024.size inb) (fun _ => rfl) : Memref sig .tc .vmem S256x1024 .bf16)
            (commM.slice (Rect.unit (s := S2048x1024) off S256x1024.size inb) (fun _ => rfl) : Memref sig .tc .vmem S256x1024 .bf16) h1 h2) k) Q) := by
  unfold backRes doneRes
  iintro ⟨HR, ⟨HC, HA⟩, HO⟩
  iapply (wp_sendwait m K c i inb hr)
  isplitl [HR]; · iexact HR
  isplitl [HC]; · iexact HC
  isplitl [HO] <;> iassumption

theorem part1 (f : Buf (Elt F) ((c : Thread nD τ).loc cc0_scratch0)) (Kt : _ → sProp (MT nD τ sig Unit (Elt F) ℕ UU ℕ)) :
    iprop(records m K ∗ ow c (owB c 7) ∗ sigRes c f 0 ∗ sigRes c f 1 ∗ sigRes c f 2 ∗ sigRes c f 3 ∗ sigRes c f 4 ∗ sigRes c f 5 ∗ sigRes c f 6)
      ⊢ iprop((∀ v30 c8 v31, (records m K ∗ ow c (owB c 5) ∗ sigRes c f 2 ∗ sigRes c f 3 ∗ sigRes c f 4 ∗ sigRes c f 5 ∗ sigRes c f 6) -∗ Kt ⟨c, me c, (SemArray.scalar (sig.barrier 0 rfl) : Sems sig S_), v30, c8, v31⟩)
        -∗ WP c (k0_part1 (F := F) xM (Memref.isWhole_whole _) iM (Memref.isWhole_whole _) wM (Memref.isWhole_whole _) oM (Memref.isWhole_whole _) commM (Memref.isWhole_whole _) gM (Memref.isWhole_whole _) cc0_scratch2 cc0_scratch3) Kt) := by
  rw [k0_part1_eq_skeleton]; unfold k0_part1_skel
  simp only [semSignalWord, semWaitWord, Prog.lift, Prog.bind_op, Prog.bind_ret, Prog.pure_eq_ret, wp_deviceId]
  iintro ⟨#HR, HO, H0, H1, H2, H3, H4, H5, H6⟩ Hk
  iapply (wp_sig m K c 0 _ (dev1_eq c) (owB c 6) (show owB c 7 = owB c 6 + tallyAt (barCell (peer c 0)) () 1 from rfl) f) $$ [HO H0]
  · isplitr; · iexact HR
    isplitl [HO] <;> iassumption
  iintro HO
  iapply (wp_sig m K c 1 _ (dev2_eq c) (owB c 5) (show owB c 6 = owB c 5 + tallyAt (barCell (peer c 1)) () 1 from rfl) f) $$ [HO H1]
  · isplitr; · iexact HR
    isplitl [HO] <;> iassumption
  iintro HO
  first | rw [WP_ret] | rw [wp_ret]
  imodintro
  iapply Hk
  isplitr; · iexact HR
  isplitl [HO]; · iexact HO
  isplitl [H2]; · iexact H2
  isplitl [H3]; · iexact H3
  isplitl [H4]; · iexact H4
  isplitl [H5]; · iexact H5
  iexact H6

theorem part2 (f : Buf (Elt F) ((c : Thread nD τ).loc cc0_scratch0)) (v30 c8 : BitVec 32) (v31 : BitVec 1) (Kt : _ → sProp (MT nD τ sig Unit (Elt F) ℕ UU ℕ)) :
    iprop(records m K ∗ ow c (owB c 5) ∗ sigRes c f 2 ∗ sigRes c f 3 ∗ sigRes c f 4 ∗ sigRes c f 5 ∗ sigRes c f 6)
      ⊢ iprop((∀ v59 v64 v65, (records m K ∗ ow c (owB c 3) ∗ sigRes c f 4 ∗ sigRes c f 5 ∗ sigRes c f 6) -∗ Kt ⟨v59, v64, v65⟩)
        -∗ WP c (k0_part2 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (SemArray.scalar (sig.barrier 0 rfl) : Sems sig S_) v30 c8 v31) Kt) := by
  rw [k0_part2_eq_skeleton]; unfold k0_part2_skel
  simp only [semSignalWord, semWaitWord, Prog.lift, Prog.bind_op, Prog.bind_ret, Prog.pure_eq_ret, wp_deviceId]
  iintro ⟨#HR, HO, H2, H3, H4, H5, H6⟩ Hk
  iapply (wp_sig m K c 2 _ (dev3_eq c) (owB c 4) (show owB c 5 = owB c 4 + tallyAt (barCell (peer c 2)) () 1 from rfl) f) $$ [HO H2]
  · isplitr; · iexact HR
    isplitl [HO] <;> iassumption
  iintro HO
  iapply (wp_sig m K c 3 _ (dev4_eq c) (owB c 3) (show owB c 4 = owB c 3 + tallyAt (barCell (peer c 3)) () 1 from rfl) f) $$ [HO H3]
  · isplitr; · iexact HR
    isplitl [HO] <;> iassumption
  iintro HO
  first | rw [WP_ret] | rw [wp_ret]
  imodintro
  iapply Hk
  isplitr; · iexact HR
  isplitl [HO]; · iexact HO
  isplitl [H4]; · iexact H4
  isplitl [H5]; · iexact H5
  iexact H6

theorem part3 (f : Buf (Elt F) ((c : Thread nD τ).loc cc0_scratch0)) (v59 : BitVec 32) (v64 : BitVec 1) (v65 : BitVec 32) (Kt : _ → sProp (MT nD τ sig Unit (Elt F) ℕ UU ℕ)) :
    iprop(records m K ∗ ow c (owB c 3) ∗ sigRes c f 4 ∗ sigRes c f 5 ∗ sigRes c f 6 ∗ cred (tallyAt (barCell c) () 7) ∗ levAts L lv ∗ atPos ER (barCell c) 0 ∅ 0)
      ⊢ iprop(((records m K ∗ ow c (owR c 7) ∗ atPos ER (barCell c) 1 ∅ 0 ∗ bigSep Finset.univ fun i : Fin 7 => iprop(∃ f, slotPts (F := F) (peer c i) c fullShare f)) -∗ Kt ⟨⟩)
        -∗ WP c (k0_part3 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (SemArray.scalar (sig.barrier 0 rfl) : Sems sig S_) v59 v64 v65) Kt) := by
  rw [k0_part3_eq_skeleton]; unfold k0_part3_skel
  simp only [semSignalWord, semWaitWord, Prog.lift, Prog.bind_op, Prog.bind_ret, Prog.pure_eq_ret, wp_deviceId]
  iintro ⟨#HR, HO, H4, H5, H6, HC, #HL, HA⟩ Hk
  iapply (wp_sig m K c 4 _ (dev5_eq c) (owB c 2) (show owB c 3 = owB c 2 + tallyAt (barCell (peer c 4)) () 1 from rfl) f) $$ [HO H4]
  · isplitr; · iexact HR
    isplitl [HO] <;> iassumption
  iintro HO
  iapply (wp_sig m K c 5 _ (dev6_eq c) (owB c 1) (show owB c 2 = owB c 1 + tallyAt (barCell (peer c 5)) () 1 from rfl) f) $$ [HO H5]
  · isplitr; · iexact HR
    isplitl [HO] <;> iassumption
  iintro HO
  iapply (wp_sig m K c 6 _ (dev7_eq c) (owB c 0) (show owB c 1 = owB c 0 + tallyAt (barCell (peer c 6)) () 1 from rfl) f) $$ [HO H6]
  · isplitr; · iexact HR
    isplitl [HO] <;> iassumption
  iintro HO
  rw [show owB c 0 = owR c 7 from rfl]
  iapply (wp_barwait m K c) $$ [HO HC HA]
  · isplitr; · iexact HR
    isplitl [HC]; · iexact HC
    isplitl [HO]; · iexact HO
    isplitr; · iexact HL
    iexact HA
  iintro ⟨HO, HA, HD⟩
  first | rw [WP_ret] | rw [wp_ret]
  imodintro
  iapply Hk
  isplitr; · iexact HR
  isplitl [HO]; · iexact HO
  isplitl [HA]; · iexact HA
  iexact HD

theorem part4 (Kt : _ → sProp (MT nD τ sig Unit (Elt F) ℕ UU ℕ)) :
    iprop(iPts m c)
      ⊢ iprop(((iPts m c) -∗ Kt ⟨ids (iAt m c), k0_pay2 (iAt m c), k0_pay3 (iAt m c), k0_pay4 (iAt m c)⟩)
        -∗ WP c (k0_part4 (F := F) xM (Memref.isWhole_whole _) iM (Memref.isWhole_whole _) wM (Memref.isWhole_whole _) oM (Memref.isWhole_whole _) commM (Memref.isWhole_whole _) gM (Memref.isWhole_whole _) cc0_scratch2 cc0_scratch3) Kt) := by
  rw [k0_part4_eq_skeleton]; unfold k0_part4_skel
  simp only [semSignalWord, semWaitWord, Prog.lift, Prog.bind_op, Prog.bind_ret, Prog.pure_eq_ret, wp_deviceId]
  iintro HI Hk
  unfold iPts
  iapply (wp_load 𝒱₀ (c : Thread nD τ) none Set.univ (m := iM) (Finset.subset_univ _)) $$ HI; iintro HI
  rw [show iM.view.readAt (Elt F) _ (iAt m c) = iAt m c from Memref.readAt_unit_zero (Elt F) cc0_stg1_0 hz2 _ _]
  first | rw [WP_ret] | rw [wp_ret]
  imodintro
  iapply Hk
  iexact HI

theorem part5 (Kt : _ → sProp (MT nD τ sig Unit (Elt F) ℕ UU ℕ)) :
    iprop(iPts m c)
      ⊢ iprop(((iPts m c) -∗ Kt ⟨rank (iAt m c), valid (iAt m c), k0_pay7 (ids (iAt m c)), eight, k0_pay8 (ids (iAt m c)), k0_pay9 (ids (iAt m c)), k0_pay10 (ids (iAt m c)), k0_pay11⟩)
        -∗ WP c (k0_part5 (F := F) xM (Memref.isWhole_whole _) iM (Memref.isWhole_whole _) wM (Memref.isWhole_whole _) oM (Memref.isWhole_whole _) commM (Memref.isWhole_whole _) gM (Memref.isWhole_whole _) cc0_scratch2 cc0_scratch3 (ids (iAt m c)) (k0_pay2 (iAt m c)) (k0_pay3 (iAt m c)) (k0_pay4 (iAt m c))) Kt) := by
  rw [k0_part5_eq_skeleton]; unfold k0_part5_skel
  simp only [semSignalWord, semWaitWord, Prog.lift, Prog.bind_op, Prog.bind_ret, Prog.pure_eq_ret, wp_deviceId]
  iintro HI Hk

  first | rw [WP_ret] | rw [wp_ret]
  imodintro
  iapply Hk
  iexact HI

theorem part6 (Kt : _ → sProp (MT nD τ sig Unit (Elt F) ℕ UU ℕ)) :
    iprop(xPts m c ∗ wPts m c ∗ own m c 0)
      ⊢ iprop(((xPts m c ∗ wPts m c ∗ own m c 1) -∗ Kt ⟨rowOf (iAt m c), pick (iAt m c) (me c) (xAt m c), pick1 (iAt m c) (me c) (xAt m c)⟩)
        -∗ WP c (k0_part6 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (rank (iAt m c)) (valid (iAt m c)) (k0_pay7 (ids (iAt m c))) eight (k0_pay8 (ids (iAt m c))) (k0_pay9 (ids (iAt m c))) (k0_pay10 (ids (iAt m c))) k0_pay11) Kt) := by
  rw [k0_part6_eq_skeleton]; unfold k0_part6_skel
  simp only [semSignalWord, semWaitWord, Prog.lift, Prog.bind_op, Prog.bind_ret, Prog.pure_eq_ret, wp_deviceId]
  iintro ⟨HX, HW, HS⟩ Hk
  unfold xPts wPts
  iapply (wp_load 𝒱₀ (c : Thread nD τ) none Set.univ (m := xM) (Finset.subset_univ _)) $$ HX; iintro HX
  rw [show xM.view.readAt (Elt F) _ (xAt m c) = xAt m c from Memref.readAt_unit_zero (Elt F) cc0_stg0_0 hz2 _ _]
  iapply (wp_load 𝒱₀ (c : Thread nD τ) none Set.univ (m := wM) (Finset.subset_univ _)) $$ HW; iintro HW
  rw [show wM.view.readAt (Elt F) (Rect.unit (s := S8x512x1024) ![0, 0, 0] S1x512x1024.size inb_S8x512x1024_S1x512x1024_0_0_0).toLoadRect (wAt m c) = wsl (wAt m c) 0 from rfl]
  iapply (wp_peek m c 0 (off := k0_off1 c 0#32) (off1_eq c 0) _) $$ HS; iintro %u0 HS
  iapply (wp_put m c 0 0 rfl (off := k0_off1 c 0#32) (off1_eq c 0) _ (w := k0_pay14 (me c) (rank (iAt m c)) (valid (iAt m c)) (k0_pay7 (ids (iAt m c))) eight (k0_pay8 (ids (iAt m c))) (k0_pay9 (ids (iAt m c))) (k0_pay10 (ids (iAt m c))) k0_pay11 (xAt m c) (wsl (wAt m c) 0)) rfl) $$ HS; iintro HS
  first | rw [WP_ret] | rw [wp_ret]
  imodintro
  iapply Hk
  isplitl [HX]; · iexact HX
  isplitl [HW]; · iexact HW
  iexact HS

theorem part7 (Kt : _ → sProp (MT nD τ sig Unit (Elt F) ℕ UU ℕ)) :
    iprop(wPts m c ∗ own m c 1)
      ⊢ iprop(((wPts m c ∗ own m c 3) -∗ Kt (k0_pay18 (pick (iAt m c) (me c) (xAt m c)) (wsl (wAt m c) 3)))
        -∗ WP c (k0_part7 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (pick (iAt m c) (me c) (xAt m c)) (pick1 (iAt m c) (me c) (xAt m c))) Kt) := by
  rw [k0_part7_eq_skeleton]; unfold k0_part7_skel
  simp only [semSignalWord, semWaitWord, Prog.lift, Prog.bind_op, Prog.bind_ret, Prog.pure_eq_ret, wp_deviceId]
  iintro ⟨HW, HS⟩ Hk
  unfold wPts
  iapply (wp_load 𝒱₀ (c : Thread nD τ) none Set.univ (m := wM) (Finset.subset_univ _)) $$ HW; iintro HW
  rw [show wM.view.readAt (Elt F) (Rect.unit (s := S8x512x1024) ![1, 0, 0] S1x512x1024.size inb_S8x512x1024_S1x512x1024_1_0_0).toLoadRect (wAt m c) = wsl (wAt m c) 1 from rfl]
  iapply (wp_peek m c 1 (off := k0_off1 c 32#32) (off1_eq c 1) _) $$ HS; iintro %u1 HS
  iapply (wp_put m c 1 1 rfl (off := k0_off1 c 32#32) (off1_eq c 1) _ (w := k0_pay16 (pick1 (iAt m c) (me c) (xAt m c)) (wsl (wAt m c) 1)) rfl) $$ HS; iintro HS
  iapply (wp_load 𝒱₀ (c : Thread nD τ) none Set.univ (m := wM) (Finset.subset_univ _)) $$ HW; iintro HW
  rw [show wM.view.readAt (Elt F) (Rect.unit (s := S8x512x1024) ![2, 0, 0] S1x512x1024.size inb_S8x512x1024_S1x512x1024_2_0_0).toLoadRect (wAt m c) = wsl (wAt m c) 2 from rfl]
  iapply (wp_peek m c 2 (off := k0_off1 c 64#32) (off1_eq c 2) _) $$ HS; iintro %u2 HS
  iapply (wp_put m c 2 2 rfl (off := k0_off1 c 64#32) (off1_eq c 2) _ (w := k0_pay17 (pick (iAt m c) (me c) (xAt m c)) (wsl (wAt m c) 2)) rfl) $$ HS; iintro HS
  iapply (wp_load 𝒱₀ (c : Thread nD τ) none Set.univ (m := wM) (Finset.subset_univ _)) $$ HW; iintro HW
  rw [show wM.view.readAt (Elt F) (Rect.unit (s := S8x512x1024) ![3, 0, 0] S1x512x1024.size inb_S8x512x1024_S1x512x1024_3_0_0).toLoadRect (wAt m c) = wsl (wAt m c) 3 from rfl]
  iapply (wp_peek m c 3 (off := k0_off1 c 96#32) (off1_eq c 3) _) $$ HS; iintro %u3 HS
  first | rw [WP_ret] | rw [wp_ret]
  imodintro
  iapply Hk
  isplitl [HW]; · iexact HW
  iexact HS

theorem part8 (Kt : _ → sProp (MT nD τ sig Unit (Elt F) ℕ UU ℕ)) :
    iprop(wPts m c ∗ own m c 3)
      ⊢ iprop(((wPts m c ∗ own m c 6) -∗ Kt (k0_pay21 (pick (iAt m c) (me c) (xAt m c)) (wsl (wAt m c) 6)))
        -∗ WP c (k0_part8 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (pick (iAt m c) (me c) (xAt m c)) (k0_pay18 (pick (iAt m c) (me c) (xAt m c)) (wsl (wAt m c) 3))) Kt) := by
  rw [k0_part8_eq_skeleton]; unfold k0_part8_skel
  simp only [semSignalWord, semWaitWord, Prog.lift, Prog.bind_op, Prog.bind_ret, Prog.pure_eq_ret, wp_deviceId]
  iintro ⟨HW, HS⟩ Hk
  unfold wPts
  iapply (wp_put m c 3 3 rfl (off := k0_off1 c 96#32) (off1_eq c 3) _ (w := k0_pay18 (pick (iAt m c) (me c) (xAt m c)) (wsl (wAt m c) 3)) rfl) $$ HS; iintro HS
  iapply (wp_load 𝒱₀ (c : Thread nD τ) none Set.univ (m := wM) (Finset.subset_univ _)) $$ HW; iintro HW
  rw [show wM.view.readAt (Elt F) (Rect.unit (s := S8x512x1024) ![4, 0, 0] S1x512x1024.size inb_S8x512x1024_S1x512x1024_4_0_0).toLoadRect (wAt m c) = wsl (wAt m c) 4 from rfl]
  iapply (wp_peek m c 4 (off := k0_off1 c 128#32) (off1_eq c 4) _) $$ HS; iintro %u4 HS
  iapply (wp_put m c 4 4 rfl (off := k0_off1 c 128#32) (off1_eq c 4) _ (w := k0_pay19 (pick (iAt m c) (me c) (xAt m c)) (wsl (wAt m c) 4)) rfl) $$ HS; iintro HS
  iapply (wp_load 𝒱₀ (c : Thread nD τ) none Set.univ (m := wM) (Finset.subset_univ _)) $$ HW; iintro HW
  rw [show wM.view.readAt (Elt F) (Rect.unit (s := S8x512x1024) ![5, 0, 0] S1x512x1024.size inb_S8x512x1024_S1x512x1024_5_0_0).toLoadRect (wAt m c) = wsl (wAt m c) 5 from rfl]
  iapply (wp_peek m c 5 (off := k0_off1 c 160#32) (off1_eq c 5) _) $$ HS; iintro %u5 HS
  iapply (wp_put m c 5 5 rfl (off := k0_off1 c 160#32) (off1_eq c 5) _ (w := k0_pay20 (pick (iAt m c) (me c) (xAt m c)) (wsl (wAt m c) 5)) rfl) $$ HS; iintro HS
  iapply (wp_load 𝒱₀ (c : Thread nD τ) none Set.univ (m := wM) (Finset.subset_univ _)) $$ HW; iintro HW
  rw [show wM.view.readAt (Elt F) (Rect.unit (s := S8x512x1024) ![6, 0, 0] S1x512x1024.size inb_S8x512x1024_S1x512x1024_6_0_0).toLoadRect (wAt m c) = wsl (wAt m c) 6 from rfl]
  first | rw [WP_ret] | rw [wp_ret]
  imodintro
  iapply Hk
  isplitl [HW]; · iexact HW
  iexact HS

theorem part9 (Kt : _ → sProp (MT nD τ sig Unit (Elt F) ℕ UU ℕ)) :
    iprop(wPts m c ∗ own m c 6)
      ⊢ iprop(((wPts m c ∗ own m c 8) -∗ Kt ⟨⟩)
        -∗ WP c (k0_part9 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (pick (iAt m c) (me c) (xAt m c)) (k0_pay21 (pick (iAt m c) (me c) (xAt m c)) (wsl (wAt m c) 6))) Kt) := by
  rw [k0_part9_eq_skeleton]; unfold k0_part9_skel
  simp only [semSignalWord, semWaitWord, Prog.lift, Prog.bind_op, Prog.bind_ret, Prog.pure_eq_ret, wp_deviceId]
  iintro ⟨HW, HS⟩ Hk
  unfold wPts
  iapply (wp_peek m c 6 (off := k0_off1 c 192#32) (off1_eq c 6) _) $$ HS; iintro %u6 HS
  iapply (wp_put m c 6 6 rfl (off := k0_off1 c 192#32) (off1_eq c 6) _ (w := k0_pay22 (k0_pay21 (pick (iAt m c) (me c) (xAt m c)) (wsl (wAt m c) 6))) rfl) $$ HS; iintro HS
  iapply (wp_load 𝒱₀ (c : Thread nD τ) none Set.univ (m := wM) (Finset.subset_univ _)) $$ HW; iintro HW
  rw [show wM.view.readAt (Elt F) (Rect.unit (s := S8x512x1024) ![7, 0, 0] S1x512x1024.size inb_S8x512x1024_S1x512x1024_7_0_0).toLoadRect (wAt m c) = wsl (wAt m c) 7 from rfl]
  iapply (wp_peek m c 7 (off := k0_off1 c 224#32) (off1_eq c 7) _) $$ HS; iintro %u7 HS
  iapply (wp_put m c 7 7 rfl (off := k0_off1 c 224#32) (off1_eq c 7) _ (w := k0_pay23 (pick (iAt m c) (me c) (xAt m c)) (wsl (wAt m c) 7)) rfl) $$ HS; iintro HS
  first | rw [WP_ret] | rw [wp_ret]
  imodintro
  iapply Hk
  isplitl [HW]; · iexact HW
  iexact HS

theorem part10 (Kt : _ → sProp (MT nD τ sig Unit (Elt F) ℕ UU ℕ)) :
    iprop(records m K ∗ ow c (owR c 7) ∗ sendRes m c 0 ∗ sendRes m c 1)
      ⊢ iprop((∀ v, (records m K ∗ ow c (owR c 5) ∗ cred (tallyAt (sendCell c 0) () N) ∗ cred (tallyAt (sendCell c 1) () N)) -∗ Kt v)
        -∗ WP c (k0_part10 (F := F) xM (Memref.isWhole_whole _) iM (Memref.isWhole_whole _) wM (Memref.isWhole_whole _) oM (Memref.isWhole_whole _) commM (Memref.isWhole_whole _) gM (Memref.isWhole_whole _) cc0_scratch2 cc0_scratch3 c (me c)) Kt) := by
  rw [k0_part10_eq_skeleton]; unfold k0_part10_skel
  simp only [semSignalWord, semWaitWord, Prog.lift, Prog.bind_op, Prog.bind_ret, Prog.pure_eq_ret, wp_deviceId]
  iintro ⟨#HR, HO, H0, H1⟩ Hk
  iapply (wp_send m K c 0 _ (dev8_eq c) (k0_off3_eq c) _ (ssem0) (rsem c) (owR c 6) (show owR c 7 = owR c 6 + tallyAt (recvCell (peer c 0) c) () N from rfl)) $$ [HO H0]
  · isplitr; · iexact HR
    isplitl [HO] <;> iassumption
  iintro ⟨H0, HO⟩
  iapply (wp_send m K c 1 _ (dev9_eq c) (k0_off3_eq c) _ (ssem1) (rsem c) (owR c 5) (show owR c 6 = owR c 5 + tallyAt (recvCell (peer c 1) c) () N from rfl)) $$ [HO H1]
  · isplitr; · iexact HR
    isplitl [HO] <;> iassumption
  iintro ⟨H1, HO⟩
  first | rw [WP_ret] | rw [wp_ret]
  imodintro
  iapply Hk
  isplitr; · iexact HR
  isplitl [HO]; · iexact HO
  isplitl [H0]; · iexact H0
  iexact H1

theorem part11 (v : BitVec 32) (Kt : _ → sProp (MT nD τ sig Unit (Elt F) ℕ UU ℕ)) :
    iprop(records m K ∗ ow c (owR c 5) ∗ sendRes m c 2 ∗ sendRes m c 3)
      ⊢ iprop((∀ v, (records m K ∗ ow c (owR c 3) ∗ cred (tallyAt (sendCell c 2) () N) ∗ cred (tallyAt (sendCell c 3) () N)) -∗ Kt v)
        -∗ WP c (k0_part11 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) v) Kt) := by
  rw [k0_part11_eq_skeleton]; unfold k0_part11_skel
  simp only [semSignalWord, semWaitWord, Prog.lift, Prog.bind_op, Prog.bind_ret, Prog.pure_eq_ret, wp_deviceId]
  iintro ⟨#HR, HO, H2, H3⟩ Hk
  iapply (wp_send m K c 2 _ (dev10_eq c) (k0_off3_eq c) _ (ssem2) (rsem c) (owR c 4) (show owR c 5 = owR c 4 + tallyAt (recvCell (peer c 2) c) () N from rfl)) $$ [HO H2]
  · isplitr; · iexact HR
    isplitl [HO] <;> iassumption
  iintro ⟨H2, HO⟩
  iapply (wp_send m K c 3 _ (dev11_eq c) (k0_off3_eq c) _ (ssem3) (rsem c) (owR c 3) (show owR c 4 = owR c 3 + tallyAt (recvCell (peer c 3) c) () N from rfl)) $$ [HO H3]
  · isplitr; · iexact HR
    isplitl [HO] <;> iassumption
  iintro ⟨H3, HO⟩
  first | rw [WP_ret] | rw [wp_ret]
  imodintro
  iapply Hk
  isplitr; · iexact HR
  isplitl [HO]; · iexact HO
  isplitl [H2]; · iexact H2
  iexact H3

theorem part12 (v406 v407 : BitVec 32) (v408 : BitVec 1) (c0 : BitVec 32) (Kt : _ → sProp (MT nD τ sig Unit (Elt F) ℕ UU ℕ)) :
    iprop(records m K ∗ ow c (owR c 3) ∗ sendRes m c 4)
      ⊢ iprop(((records m K ∗ ow c (owR c 2) ∗ cred (tallyAt (sendCell c 4) () N)) -∗ Kt ⟨⟩)
        -∗ WP c (k0_part12 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) v406 v407 v408 c0) Kt) := by
  rw [k0_part12_eq_skeleton]; unfold k0_part12_skel
  simp only [semSignalWord, semWaitWord, Prog.lift, Prog.bind_op, Prog.bind_ret, Prog.pure_eq_ret, wp_deviceId]
  iintro ⟨#HR, HO, H4⟩ Hk
  iapply (wp_send m K c 4 _ (dev12_eq c) (k0_off3_eq c) _ (ssem4) (rsem c) (owR c 2) (show owR c 3 = owR c 2 + tallyAt (recvCell (peer c 4) c) () N from rfl)) $$ [HO H4]
  · isplitr; · iexact HR
    isplitl [HO] <;> iassumption
  iintro ⟨H4, HO⟩
  first | rw [WP_ret] | rw [wp_ret]
  imodintro
  iapply Hk
  isplitr; · iexact HR
  isplitl [HO]; · iexact HO
  iexact H4

theorem part13 (Kt : _ → sProp (MT nD τ sig Unit (Elt F) ℕ UU ℕ)) :
    iprop(records m K ∗ ow c (owR c 2) ∗ sendRes m c 5 ∗ sendRes m c 6 ∗ ∃ f, gPts (F := F) c f)
      ⊢ iprop((∀ v, (records m K ∗ ow c (0) ∗ cred (tallyAt (sendCell c 5) () N) ∗ cred (tallyAt (sendCell c 6) () N) ∗ gPts c (gAt m c)) -∗ Kt v)
        -∗ WP c (k0_part13 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) (rowOf (iAt m c))) Kt) := by
  rw [k0_part13_eq_skeleton]; unfold k0_part13_skel
  simp only [semSignalWord, semWaitWord, Prog.lift, Prog.bind_op, Prog.bind_ret, Prog.pure_eq_ret, wp_deviceId]
  iintro ⟨#HR, HO, H5, H6, HG⟩ Hk
  iapply (wp_send m K c 5 _ (dev13_eq c) (k0_off3_eq c) _ (ssem5) (rsem c) (owR c 1) (show owR c 2 = owR c 1 + tallyAt (recvCell (peer c 5) c) () N from rfl)) $$ [HO H5]
  · isplitr; · iexact HR
    isplitl [HO] <;> iassumption
  iintro ⟨H5, HO⟩
  iapply (wp_send m K c 6 _ (dev14_eq c) (k0_off3_eq c) _ (ssem6) (rsem c) (owR c 0) (show owR c 1 = owR c 0 + tallyAt (recvCell (peer c 6) c) () N from rfl)) $$ [HO H6]
  · isplitr; · iexact HR
    isplitl [HO] <;> iassumption
  iintro ⟨H6, HO⟩
  rw [show owR c 0 = 0 from rfl]
  icases HG with ⟨%g0, HG⟩
  unfold gPts
  iapply (wp_load 𝒱₀ (c : Thread nD τ) none Set.univ (m := gM) (Finset.subset_univ _)) $$ HG; iintro HG
  iapply (wp_store 𝒱₀ (c : Thread nD τ) none Set.univ (m := gM) (r := Rect.unit (s := S2048x2048) ![0, 0] S2048x2048.size inb_S2048x2048_S2048x2048_0_0) (Mk := Finset.univ) (Finset.subset_univ _)) $$ HG; iintro HG
  rw [show ((gM.access (Rect.unit (s := S2048x2048) ![0, 0] S2048x2048.size inb_S2048x2048_S2048x2048_0_0) : View sig .tc _ _ _).write (Elt F) g0 (k0_pay24 (F := F) (rowOf (iAt m c))) Finset.univ)
    = gAt m c from Memref.write_access_unit_zero_univ (Elt F) cc0_scratch1 hz2 _ _ _]
  first | rw [WP_ret] | rw [wp_ret]
  imodintro
  iapply Hk
  isplitr; · iexact HR
  isplitl [HO]; · iexact HO
  isplitl [H5]; · iexact H5
  isplitl [H6]; · iexact H6
  iexact HG

theorem part14 (a b : BitVec 32) (d : BitVec 1) (e : BitVec 32) (Kt : _ → sProp (MT nD τ sig Unit (Elt F) ℕ UU ℕ)) :
    iprop(records m K ∗ ow c (0) ∗ recvRes c 0 ∗ recvRes c 1)
      ⊢ iprop((∀ v, (records m K ∗ ow c (0) ∗ gotRes m c 0 ∗ gotRes m c 1) -∗ Kt v)
        -∗ WP c (k0_part14 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) a b d e) Kt) := by
  rw [k0_part14_eq_skeleton]; unfold k0_part14_skel
  simp only [semSignalWord, semWaitWord, Prog.lift, Prog.bind_op, Prog.bind_ret, Prog.pure_eq_ret, wp_deviceId]
  iintro ⟨#HR, HO, H0, H1⟩ Hk
  iapply (wp_recv m K c 0 _ (wsem c 0)) $$ [HO H0]
  · isplitr; · iexact HR
    isplitl [H0] <;> iassumption
  iintro ⟨HO, H0⟩
  iapply (wp_recv m K c 1 _ (wsem c 1)) $$ [HO H1]
  · isplitr; · iexact HR
    isplitl [H1] <;> iassumption
  iintro ⟨HO, H1⟩
  first | rw [WP_ret] | rw [wp_ret]
  imodintro
  iapply Hk
  isplitr; · iexact HR
  isplitl [HO]; · iexact HO
  isplitl [H0]; · iexact H0
  iexact H1

theorem part15 (a b : BitVec 32) (Kt : _ → sProp (MT nD τ sig Unit (Elt F) ℕ UU ℕ)) :
    iprop(records m K ∗ ow c (0) ∗ recvRes c 2)
      ⊢ iprop(((records m K ∗ ow c (0) ∗ gotRes m c 2) -∗ Kt ⟨⟩)
        -∗ WP c (k0_part15 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) a b) Kt) := by
  rw [k0_part15_eq_skeleton]; unfold k0_part15_skel
  simp only [semSignalWord, semWaitWord, Prog.lift, Prog.bind_op, Prog.bind_ret, Prog.pure_eq_ret, wp_deviceId]
  iintro ⟨#HR, HO, H2⟩ Hk
  iapply (wp_recv m K c 2 _ (wsem c 2)) $$ [HO H2]
  · isplitr; · iexact HR
    isplitl [H2] <;> iassumption
  iintro ⟨HO, H2⟩
  first | rw [WP_ret] | rw [wp_ret]
  imodintro
  iapply Hk
  isplitr; · iexact HR
  isplitl [HO]; · iexact HO
  iexact H2

theorem part16 (Kt : _ → sProp (MT nD τ sig Unit (Elt F) ℕ UU ℕ)) :
    iprop(records m K ∗ ow c (0) ∗ recvRes c 3 ∗ recvRes c 4)
      ⊢ iprop((∀ v, (records m K ∗ ow c (0) ∗ gotRes m c 3 ∗ gotRes m c 4) -∗ Kt v)
        -∗ WP c (k0_part16 (F := F) xM (Memref.isWhole_whole _) iM (Memref.isWhole_whole _) wM (Memref.isWhole_whole _) oM (Memref.isWhole_whole _) commM (Memref.isWhole_whole _) gM (Memref.isWhole_whole _) cc0_scratch2 cc0_scratch3 c (me c)) Kt) := by
  rw [k0_part16_eq_skeleton]; unfold k0_part16_skel
  simp only [semSignalWord, semWaitWord, Prog.lift, Prog.bind_op, Prog.bind_ret, Prog.pure_eq_ret, wp_deviceId]
  iintro ⟨#HR, HO, H3, H4⟩ Hk
  iapply (wp_recv m K c 3 _ (wsem c 3)) $$ [HO H3]
  · isplitr; · iexact HR
    isplitl [H3] <;> iassumption
  iintro ⟨HO, H3⟩
  iapply (wp_recv m K c 4 _ (wsem c 4)) $$ [HO H4]
  · isplitr; · iexact HR
    isplitl [H4] <;> iassumption
  iintro ⟨HO, H4⟩
  first | rw [WP_ret] | rw [wp_ret]
  imodintro
  iapply Hk
  isplitr; · iexact HR
  isplitl [HO]; · iexact HO
  isplitl [H3]; · iexact H3
  iexact H4

theorem part17 (a b : BitVec 32) (Kt : _ → sProp (MT nD τ sig Unit (Elt F) ℕ UU ℕ)) :
    iprop(records m K ∗ ow c (0) ∗ gotRes m c 0 ∗ gotRes m c 1 ∗ gotRes m c 2 ∗ gotRes m c 3 ∗ gotRes m c 4 ∗ recvRes c 5 ∗ recvRes c 6 ∗ slotPts c c qd (comm m) ∗ gPts c (gAt m c) ∗ ∃ f, oPts (F := F) c f)
      ⊢ iprop(((records m K ∗ ow c (0) ∗ gotRes m c 0 ∗ gotRes m c 1 ∗ gotRes m c 2 ∗ gotRes m c 3 ∗ gotRes m c 4 ∗ gotRes m c 5 ∗ gotRes m c 6 ∗ slotPts c c qd (comm m) ∗ gPts c (gAt m c) ∗ oPts c (outAt m c)) -∗ Kt ⟨⟩)
        -∗ WP c (k0_part17 (F := F) xM (Memref.isWhole_whole _) iM (Memref.isWhole_whole _) wM (Memref.isWhole_whole _) oM (Memref.isWhole_whole _) commM (Memref.isWhole_whole _) gM (Memref.isWhole_whole _) cc0_scratch2 cc0_scratch3 c (me c) a b) Kt) := by
  rw [k0_part17_eq_skeleton]; unfold k0_part17_skel
  simp only [semSignalWord, semWaitWord, Prog.lift, Prog.bind_op, Prog.bind_ret, Prog.pure_eq_ret, wp_deviceId]
  iintro ⟨#HR, HO, H0, H1, H2, H3, H4, H5, H6, HS, HG, HY⟩ Hk
  iapply (wp_recv m K c 5 _ (wsem c 5)) $$ [HO H5]
  · isplitr; · iexact HR
    isplitl [H5] <;> iassumption
  iintro ⟨HO, H5⟩
  iapply (wp_recv m K c 6 _ (wsem c 6)) $$ [HO H6]
  · isplitr; · iexact HR
    isplitl [H6] <;> iassumption
  iintro ⟨HO, H6⟩
  icases HY with ⟨%y0, HY⟩
  unfold gPts oPts
  iapply (wp_load 𝒱₀ (c : Thread nD τ) none Set.univ (m := gM) (Finset.subset_univ _)) $$ HG; iintro HG
  rw [show gM.view.readAt (Elt F) _ (gAt m c) = gAt m c from Memref.readAt_unit_zero (Elt F) cc0_scratch1 hz2 _ _]
  unfold gotRes
  icases H0 with ⟨A0, B0⟩
  icases H1 with ⟨A1, B1⟩
  icases H2 with ⟨A2, B2⟩
  icases H3 with ⟨A3, B3⟩
  icases H4 with ⟨A4, B4⟩
  icases H5 with ⟨A5, B5⟩
  icases H6 with ⟨A6, B6⟩
  iapply (wp_gather m c) $$ [HS B0 B1 B2 B3 B4 B5 B6]
  · isplitl [HS]; · iexact HS
    rw [bigSep_fin7]
    isplitl [B0]; · iexact B0
    isplitl [B1]; · iexact B1
    isplitl [B2]; · iexact B2
    isplitl [B3]; · iexact B3
    isplitl [B4]; · iexact B4
    isplitl [B5]; · iexact B5
    iexact B6
  iintro ⟨HS, HB0⟩
  ihave HB := (Entails.of_eq (bigSep_fin7 fun i : Fin 7 => slotPts c (peer c i) fullShare (comm m))) $$ HB0
  icases HB with ⟨B0, B1, B2, B3, B4, B5, B6⟩
  iapply (wp_load 𝒱₀ (c : Thread nD τ) none Set.univ (m := oM) (Finset.subset_univ _)) $$ HY; iintro HY
  iapply (wp_store 𝒱₀ (c : Thread nD τ) none Set.univ (m := oM) (r := Rect.unit (s := S2048x1024) ![0, 0] S2048x1024.size inb_S2048x1024_S2048x1024_0_0) (Mk := Finset.univ) (Finset.subset_univ _)) $$ HY; iintro HY
  rw [show ((oM.access (Rect.unit (s := S2048x1024) ![0, 0] S2048x1024.size inb_S2048x1024_S2048x1024_0_0) : View sig .tc _ _ _).write (Elt F) y0 (k0_pay25 (gAt m c) (comm m)) Finset.univ)
    = outAt m c from Memref.write_access_unit_zero_univ (Elt F) cc0_stg3_0 hz2 _ _ _]
  first | rw [WP_ret] | rw [wp_ret]
  imodintro
  iapply Hk
  isplitr; · iexact HR
  isplitl [HO]; · iexact HO
  isplitl [A0 B0]; · (isplitl [A0] <;> iassumption)
  isplitl [A1 B1]; · (isplitl [A1] <;> iassumption)
  isplitl [A2 B2]; · (isplitl [A2] <;> iassumption)
  isplitl [A3 B3]; · (isplitl [A3] <;> iassumption)
  isplitl [A4 B4]; · (isplitl [A4] <;> iassumption)
  isplitl [A5 B5]; · (isplitl [A5] <;> iassumption)
  isplitl [A6 B6]; · (isplitl [A6] <;> iassumption)
  isplitl [HS]; · iexact HS
  isplitl [HG]; · iexact HG
  iexact HY

theorem part18 (Kt : _ → sProp (MT nD τ sig Unit (Elt F) ℕ UU ℕ)) :
    iprop(records m K ∗ ow c (0) ∗ backRes c 0 ∗ backRes c 1 ∗ backRes c 2 ∗ backRes c 3 ∗ backRes c 4 ∗ backRes c 5)
      ⊢ iprop(((records m K ∗ ow c (0) ∗ doneRes m c 0 ∗ doneRes m c 1 ∗ doneRes m c 2 ∗ doneRes m c 3 ∗ doneRes m c 4 ∗ doneRes m c 5) -∗ Kt ⟨⟩)
        -∗ WP c (k0_part18 (F := F) xM (Memref.isWhole_whole _) iM (Memref.isWhole_whole _) wM (Memref.isWhole_whole _) oM (Memref.isWhole_whole _) commM (Memref.isWhole_whole _) gM (Memref.isWhole_whole _) cc0_scratch2 cc0_scratch3 c) Kt) := by
  rw [k0_part18_eq_skeleton]; unfold k0_part18_skel
  simp only [semSignalWord, semWaitWord, Prog.lift, Prog.bind_op, Prog.bind_ret, Prog.pure_eq_ret, wp_deviceId]
  iintro ⟨#HR, HO, H0, H1, H2, H3, H4, H5⟩ Hk
  iapply (wp_back m K c 0 _ (ssem0)) $$ [HO H0]
  · isplitr; · iexact HR
    isplitl [H0] <;> iassumption
  iintro ⟨HO, H0⟩
  iapply (wp_back m K c 1 _ (ssem1)) $$ [HO H1]
  · isplitr; · iexact HR
    isplitl [H1] <;> iassumption
  iintro ⟨HO, H1⟩
  iapply (wp_back m K c 2 _ (ssem2)) $$ [HO H2]
  · isplitr; · iexact HR
    isplitl [H2] <;> iassumption
  iintro ⟨HO, H2⟩
  iapply (wp_back m K c 3 _ (ssem3)) $$ [HO H3]
  · isplitr; · iexact HR
    isplitl [H3] <;> iassumption
  iintro ⟨HO, H3⟩
  iapply (wp_back m K c 4 _ (ssem4)) $$ [HO H4]
  · isplitr; · iexact HR
    isplitl [H4] <;> iassumption
  iintro ⟨HO, H4⟩
  iapply (wp_back m K c 5 _ (ssem5)) $$ [HO H5]
  · isplitr; · iexact HR
    isplitl [H5] <;> iassumption
  iintro ⟨HO, H5⟩
  first | rw [WP_ret] | rw [wp_ret]
  imodintro
  iapply Hk
  isplitr; · iexact HR
  isplitl [HO]; · iexact HO
  isplitl [H0]; · iexact H0
  isplitl [H1]; · iexact H1
  isplitl [H2]; · iexact H2
  isplitl [H3]; · iexact H3
  isplitl [H4]; · iexact H4
  iexact H5

end

end Cert.MoE

end
-- ==== Proof.Body.lean ====
/-
# The body as a whole

The eighteen parts in order, at a symbolic device `c`: from the launch's ghost state, the staged inputs and the two
scratch buffers to the staged result, every counter closed at zero.
-/
module

public import proofs.«01_k».proof.Proof.Parts

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem WP_bind (c : Dev nD) {α β : Type} (p : Prog (TpuEff nD τ sig (Elt F) Λ₀ .tc) α) (k : α → Prog (TpuEff nD τ sig (Elt F) Λ₀ .tc) β)
    (Q : β → sProp (MT nD τ sig Unit (Elt F) ℕ UU ℕ)) : WP c (p >>= k) Q = WP c p (fun a => WP c (k a) Q) := wp_bind _ _ _ p k Q

theorem own_zero (c : Dev nD) (f : Buf (Elt F) ((c : Thread nD τ).loc cc0_scratch0)) : slotPts c c fullShare f ⊢ own m c 0 := by
  unfold own
  iintro H; iexists f
  isplitr; · (ipureintro; exact filled_zero (blk m) c f)
  iexact H

theorem own_full (c : Dev nD) : own m c 8 ⊢ slotPts c c fullShare (comm m) := by
  unfold own
  iintro ⟨%f, %hf, H⟩
  iapply (show slotPts c c fullShare f ⊢ slotPts c c fullShare (comm m) from Entails.of_eq (pointsTo_congr (filled_slot (blk m) c f hf)))
  iexact H

/-- Closing a family of cells at once. -/
theorem close_all {I : Type} [DecidableEq I] (S : Finset I) {R : sProp (MT nD τ sig Unit (Elt F) ℕ UU ℕ)} [BI.Persistent R]
    {Φ Ψ : I → sProp (MT nD τ sig Unit (Elt F) ℕ UU ℕ)} (h : ∀ i, iprop(R ∗ Φ i) ⊢ |={Set.univ}=> Ψ i) :
    iprop(R ∗ bigSep S Φ) ⊢ |={Set.univ}=> bigSep S Ψ :=
  (sep_mono_left (BI.bigSep_of_persistent S R)).trans (by
    rw [← bigSep_sep']; exact (bigSep_mono fun i _ => h i).trans (bigSep_fupd _ _))

section
variable (K : Dev nD × CI → ℕ) (c : Dev nD)

theorem close_bar : iprop(records m K ∗ atPos ER (barCell c) 1 ∅ 0) ⊢ |={Set.univ}=> semVal (barCell c) 0 := by
  iintro ⟨HR, HA⟩
  iapply (Rounds.cell_close ER (Rd m) (Set.mem_univ (K (c, bI))) (fun h => h) (R := 1) (duties_later m (barCell c)))
  isplitl [HR]; · iapply (inv_bar m K c); iexact HR
  iexact HA
theorem close_send (i : Fin 7) : iprop(records m K ∗ atPos ER (sendCell c i) 1 ∅ 0) ⊢ |={Set.univ}=> semVal (sendCell c i) 0 := by
  iintro ⟨HR, HA⟩
  iapply (Rounds.cell_close ER (Rd m) (Set.mem_univ (K (c, sI i))) (fun h => h) (R := 1) (duties_later m (sendCell c i)))
  isplitl [HR]; · iapply (inv_send m K c i); iexact HR
  iexact HA
theorem close_recv (o : Dev nD) : iprop(records m K ∗ atPos ER (recvCell c o) 1 ∅ 0) ⊢ |={Set.univ}=> semVal (recvCell c o) 0 := by
  iintro ⟨HR, HA⟩
  iapply (Rounds.cell_close ER (Rd m) (Set.mem_univ (K (c, rI o))) (fun h => h) (R := 1) (duties_later m (recvCell c o)))
  isplitl [HR]; · iapply (inv_recv m K c o); iexact HR
  iexact HA
theorem close_own : iprop(records m K ∗ atPos ER (recvCell c c) 0 ∅ 0) ⊢ |={Set.univ}=> semVal (recvCell c c) 0 := by
  iintro ⟨HR, HA⟩
  iapply (Rounds.cell_close ER (Rd m) (Set.mem_univ (K (c, rI c))) (fun h => h) (R := 0) (duties_recv_own_all m c))
  isplitl [HR]; · iapply (inv_recv m K c c); iexact HR
  iexact HA

theorem send_intro (i : Fin 7) : iprop(dutyTok ER (sendCell c i) 0 0 ∗ dutyTok ER (recvCell (peer c i) c) 0 0 ∗ slotPts c c (tok i) (comm m) ∗ ∃ f, slotPts (peer c i) c fullShare f)
    ⊢ sendRes m c i := BI.Entails.refl _

/-- What the body starts from, -/
def corePre : sProp (MT nD τ sig Unit (Elt F) ℕ UU ℕ) :=
  iprop(ghost m K c ∗ cred (tallyAt (barCell c) () 7) ∗ (bigSep Finset.univ fun i : Fin 7 => cred (tallyAt (recvCell c (peer c i)) () N))
    ∗ levAts L lv ∗ (∃ f, commPts (F := F) c fullShare f) ∗ (∃ f, gPts (F := F) c f) ∗ ow c (owB c 7)
    ∗ xPts m c ∗ iPts m c ∗ wPts m c ∗ ∃ f, oPts (F := F) c f)

/-- and what it leaves: -/
def counters : sProp (MT nD τ sig Unit (Elt F) ℕ UU ℕ) :=
  iprop(semVal (barCell c) 0 ∗ (bigSep Finset.univ fun i : Fin 7 => semVal (sendCell c i) 0) ∗ bigSep Finset.univ fun o : Dev nD => semVal (recvCell c o) 0)
def corePost : sProp (MT nD τ sig Unit (Elt F) ℕ UU ℕ) :=
  iprop(counters (F := F) c ∗ commPts c fullShare (comm m) ∗ gPts c (gAt m c) ∗ ow c 0
    ∗ xPts m c ∗ iPts m c ∗ wPts m c ∗ oPts c (outAt m c))

set_option maxHeartbeats 1000000 in
theorem body_core (Kt : PUnit → sProp (MT nD τ sig Unit (Elt F) ℕ UU ℕ)) :
    corePre m K c ⊢ iprop((corePost m c -∗ Kt ⟨⟩) -∗ WP c (cc0_body (F := F) xM (Memref.isWhole_whole _) iM (Memref.isWhole_whole _) wM (Memref.isWhole_whole _) oM (Memref.isWhole_whole _) commM (Memref.isWhole_whole _) gM (Memref.isWhole_whole _) cc0_scratch2 cc0_scratch3) Kt) := by
  rw [cc0_body_eq_skeleton]; unfold cc0_body_skel
  unfold corePre ghost places payToks
  simp only [bigSep_fin7]
  iintro ⟨⟨#HR, ⟨HatB, ⟨S0, S1, S2, S3, S4, S5, S6⟩, HatO, ⟨V0, V1, V2, V3, V4, V5, V6⟩⟩, ⟨TB0, TB1, TB2, TB3, TB4, TB5, TB6⟩, ⟨TS0, TS1, TS2, TS3, TS4, TS5, TS6⟩, ⟨TR0, TR1, TR2, TR3, TR4, TR5, TR6⟩⟩, HcB, ⟨C0, C1, C2, C3, C4, C5, C6⟩, #HL, ⟨%f, HC⟩, HG, HO, HX, HI, HW, HY⟩ Hk
  ihave HC' := (Entails.of_eq (commPts_eq c fullShare f)) $$ HC
  icases HC' with ⟨Hs, HP⟩
  ihave HP' := (Entails.of_eq (bigSep_fin7 fun i : Fin 7 => slotPts c (peer c i) fullShare f)) $$ HP
  icases HP' with ⟨P0, P1, P2, P3, P4, P5, P6⟩
  ihave HS := (own_zero m c f) $$ Hs
  rw [WP_bind]
  iapply (part1 m K c f _) $$ [HO TB0 P0 TB1 P1 TB2 P2 TB3 P3 TB4 P4 TB5 P5 TB6 P6]
  · isplitr; · iexact HR
    isplitl [HO]; · iexact HO
    isplitl [TB0 P0]; · (unfold sigRes; isplitl [TB0] <;> iassumption)
    isplitl [TB1 P1]; · (unfold sigRes; isplitl [TB1] <;> iassumption)
    isplitl [TB2 P2]; · (unfold sigRes; isplitl [TB2] <;> iassumption)
    isplitl [TB3 P3]; · (unfold sigRes; isplitl [TB3] <;> iassumption)
    isplitl [TB4 P4]; · (unfold sigRes; isplitl [TB4] <;> iassumption)
    isplitl [TB5 P5]; · (unfold sigRes; isplitl [TB5] <;> iassumption)
    (unfold sigRes; isplitl [TB6] <;> iassumption)
  iintro %w1 %w2 %w3 ⟨-, HO, H2, H3, H4, H5, H6⟩
  try dsimp only
  rw [WP_bind]
  iapply (part2 m K c f w1 w2 w3 _) $$ [HO H2 H3 H4 H5 H6]
  · isplitr; · iexact HR
    isplitl [HO]; · iexact HO
    isplitl [H2]; · iexact H2
    isplitl [H3]; · iexact H3
    isplitl [H4]; · iexact H4
    isplitl [H5]; · iexact H5
    iexact H6
  iintro %w4 %w5 %w6 ⟨-, HO, H4, H5, H6⟩
  try dsimp only
  rw [WP_bind]
  iapply (part3 m K c f w4 w5 w6 _) $$ [HO H4 H5 H6 HcB HatB]
  · isplitr; · iexact HR
    isplitl [HO]; · iexact HO
    isplitl [H4]; · iexact H4
    isplitl [H5]; · iexact H5
    isplitl [H6]; · iexact H6
    isplitl [HcB]; · iexact HcB
    isplitr; · iexact HL
    iexact HatB
  iintro ⟨-, HO, HatB, HD⟩
  try dsimp only
  ihave HD' := (Entails.of_eq (bigSep_fin7 fun i : Fin 7 => iprop(∃ f, slotPts (F := F) (peer c i) c fullShare f))) $$ HD
  icases HD' with ⟨D0, D1, D2, D3, D4, D5, D6⟩
  rw [WP_bind]
  iapply (part4 m c _) $$ [HI]
  · iexact HI
  iintro HI
  try dsimp only
  rw [WP_bind]
  iapply (part5 m c _) $$ [HI]
  · iexact HI
  iintro HI
  try dsimp only
  rw [WP_bind]
  iapply (part6 m c _) $$ [HX HW HS]
  · isplitl [HX]; · iexact HX
    isplitl [HW]; · iexact HW
    iexact HS
  iintro ⟨HX, HW, HS⟩
  try dsimp only
  rw [WP_bind]
  iapply (part7 m c _) $$ [HW HS]
  · isplitl [HW]; · iexact HW
    iexact HS
  iintro ⟨HW, HS⟩
  try dsimp only
  rw [WP_bind]
  iapply (part8 m c _) $$ [HW HS]
  · isplitl [HW]; · iexact HW
    iexact HS
  iintro ⟨HW, HS⟩
  try dsimp only
  rw [WP_bind]
  iapply (part9 m c _) $$ [HW HS]
  · isplitl [HW]; · iexact HW
    iexact HS
  iintro ⟨HW, HS⟩
  try dsimp only
  ihave Hs := (own_full m c) $$ HS
  ihave Hs' := (Entails.of_eq (slot_toks c c (comm m))) $$ Hs
  icases Hs' with ⟨HS, HQ⟩
  ihave HQ' := (Entails.of_eq (bigSep_fin7 fun i : Fin 7 => slotPts c c (tok i) (comm m))) $$ HQ
  icases HQ' with ⟨Q0, Q1, Q2, Q3, Q4, Q5, Q6⟩
  rw [WP_bind]
  iapply (part10 m K c _) $$ [HO TS0 TR0 Q0 D0 TS1 TR1 Q1 D1]
  · isplitr; · iexact HR
    isplitl [HO]; · iexact HO
    isplitl [TS0 TR0 Q0 D0]; · iapply (send_intro m c 0) $$ [TS0 TR0 Q0 D0]; isplitl [TS0]; (iexact TS0); isplitl [TR0]; (iexact TR0); isplitl [Q0] <;> iassumption
    iapply (send_intro m c 1) $$ [TS1 TR1 Q1 D1]; isplitl [TS1]; (iexact TS1); isplitl [TR1]; (iexact TR1); isplitl [Q1] <;> iassumption
  iintro %w7 ⟨-, HO, E0, E1⟩
  try dsimp only
  rw [WP_bind]
  iapply (part11 m K c w7 _) $$ [HO TS2 TR2 Q2 D2 TS3 TR3 Q3 D3]
  · isplitr; · iexact HR
    isplitl [HO]; · iexact HO
    isplitl [TS2 TR2 Q2 D2]; · iapply (send_intro m c 2) $$ [TS2 TR2 Q2 D2]; isplitl [TS2]; (iexact TS2); isplitl [TR2]; (iexact TR2); isplitl [Q2] <;> iassumption
    iapply (send_intro m c 3) $$ [TS3 TR3 Q3 D3]; isplitl [TS3]; (iexact TS3); isplitl [TR3]; (iexact TR3); isplitl [Q3] <;> iassumption
  iintro %w8 ⟨-, HO, E2, E3⟩
  try dsimp only
  rw [WP_bind]
  iapply (part12 m K c _ _ _ _ _) $$ [HO TS4 TR4 Q4 D4]
  · isplitr; · iexact HR
    isplitl [HO]; · iexact HO
    iapply (send_intro m c 4) $$ [TS4 TR4 Q4 D4]; isplitl [TS4]; (iexact TS4); isplitl [TR4]; (iexact TR4); isplitl [Q4] <;> iassumption
  iintro ⟨-, HO, E4⟩
  try dsimp only
  rw [WP_bind]
  iapply (part13 m K c _) $$ [HO TS5 TR5 Q5 D5 TS6 TR6 Q6 D6 HG]
  · isplitr; · iexact HR
    isplitl [HO]; · iexact HO
    isplitl [TS5 TR5 Q5 D5]; · iapply (send_intro m c 5) $$ [TS5 TR5 Q5 D5]; isplitl [TS5]; (iexact TS5); isplitl [TR5]; (iexact TR5); isplitl [Q5] <;> iassumption
    isplitl [TS6 TR6 Q6 D6]; · iapply (send_intro m c 6) $$ [TS6 TR6 Q6 D6]; isplitl [TS6]; (iexact TS6); isplitl [TR6]; (iexact TR6); isplitl [Q6] <;> iassumption
    iexact HG
  iintro %w9 ⟨-, HO, E5, E6, HG⟩
  try dsimp only
  rw [WP_bind]
  iapply (part14 m K c _ _ _ _ _) $$ [HO C0 V0 C1 V1]
  · isplitr; · iexact HR
    isplitl [HO]; · iexact HO
    isplitl [C0 V0]; · (unfold recvRes; isplitl [C0] <;> iassumption)
    (unfold recvRes; isplitl [C1] <;> iassumption)
  iintro %w10 ⟨-, HO, V0, V1⟩
  try dsimp only
  rw [WP_bind]
  iapply (part15 m K c _ _ _) $$ [HO C2 V2]
  · isplitr; · iexact HR
    isplitl [HO]; · iexact HO
    (unfold recvRes; isplitl [C2] <;> iassumption)
  iintro ⟨-, HO, V2⟩
  try dsimp only
  rw [WP_bind]
  iapply (part16 m K c _) $$ [HO C3 V3 C4 V4]
  · isplitr; · iexact HR
    isplitl [HO]; · iexact HO
    isplitl [C3 V3]; · (unfold recvRes; isplitl [C3] <;> iassumption)
    (unfold recvRes; isplitl [C4] <;> iassumption)
  iintro %w11 ⟨-, HO, V3, V4⟩
  try dsimp only
  rw [WP_bind]
  iapply (part17 m K c _ _ _) $$ [HO V0 V1 V2 V3 V4 C5 V5 C6 V6 HS HG HY]
  · isplitr; · iexact HR
    isplitl [HO]; · iexact HO
    isplitl [V0]; · iexact V0
    isplitl [V1]; · iexact V1
    isplitl [V2]; · iexact V2
    isplitl [V3]; · iexact V3
    isplitl [V4]; · iexact V4
    isplitl [C5 V5]; · (unfold recvRes; isplitl [C5] <;> iassumption)
    isplitl [C6 V6]; · (unfold recvRes; isplitl [C6] <;> iassumption)
    isplitl [HS]; · iexact HS
    isplitl [HG]; · iexact HG
    iexact HY
  iintro ⟨-, HO, V0, V1, V2, V3, V4, V5, V6, HS, HG, HY⟩
  try dsimp only
  rw [WP_bind]
  iapply (part18 m K c _) $$ [HO E0 S0 E1 S1 E2 S2 E3 S3 E4 S4 E5 S5]
  · isplitr; · iexact HR
    isplitl [HO]; · iexact HO
    isplitl [E0 S0]; · (unfold backRes; isplitl [E0] <;> iassumption)
    isplitl [E1 S1]; · (unfold backRes; isplitl [E1] <;> iassumption)
    isplitl [E2 S2]; · (unfold backRes; isplitl [E2] <;> iassumption)
    isplitl [E3 S3]; · (unfold backRes; isplitl [E3] <;> iassumption)
    isplitl [E4 S4]; · (unfold backRes; isplitl [E4] <;> iassumption)
    (unfold backRes; isplitl [E5] <;> iassumption)
  iintro ⟨-, HO, S0, S1, S2, S3, S4, S5⟩
  try dsimp only
  simp only [Prog.lift, Prog.bind_op, Prog.bind_ret, Prog.pure_eq_ret]
  iapply (wp_back m K c 6 _ ssem6) $$ [HO E6 S6]
  · isplitr; · iexact HR
    isplitl [E6 S6]; · (unfold backRes; isplitl [E6] <;> iassumption)
    iexact HO
  iintro ⟨HO, S6⟩
  unfold doneRes gotRes
  icases S0 with ⟨S0, Q0⟩
  icases V0 with ⟨V0, P0⟩
  icases S1 with ⟨S1, Q1⟩
  icases V1 with ⟨V1, P1⟩
  icases S2 with ⟨S2, Q2⟩
  icases V2 with ⟨V2, P2⟩
  icases S3 with ⟨S3, Q3⟩
  icases V3 with ⟨V3, P3⟩
  icases S4 with ⟨S4, Q4⟩
  icases V4 with ⟨V4, P4⟩
  icases S5 with ⟨S5, Q5⟩
  icases V5 with ⟨V5, P5⟩
  icases S6 with ⟨S6, Q6⟩
  icases V6 with ⟨V6, P6⟩
  ihave HQ := (show iprop(slotPts c c (tok 0) (comm m) ∗ slotPts c c (tok 1) (comm m) ∗ slotPts c c (tok 2) (comm m) ∗ slotPts c c (tok 3) (comm m) ∗ slotPts c c (tok 4) (comm m) ∗ slotPts c c (tok 5) (comm m) ∗ slotPts c c (tok 6) (comm m)) ⊢ bigSep Finset.univ fun i : Fin 7 => slotPts c c (tok i) (comm m) from Entails.of_eq (bigSep_fin7 fun i : Fin 7 => slotPts c c (tok i) (comm m)).symm) $$ [Q0 Q1 Q2 Q3 Q4 Q5 Q6]
  · isplitl [Q0]; · iexact Q0
    isplitl [Q1]; · iexact Q1
    isplitl [Q2]; · iexact Q2
    isplitl [Q3]; · iexact Q3
    isplitl [Q4]; · iexact Q4
    isplitl [Q5]; · iexact Q5
    iexact Q6
  ihave HP := (show iprop(slotPts c (peer c 0) fullShare (comm m) ∗ slotPts c (peer c 1) fullShare (comm m) ∗ slotPts c (peer c 2) fullShare (comm m) ∗ slotPts c (peer c 3) fullShare (comm m) ∗ slotPts c (peer c 4) fullShare (comm m) ∗ slotPts c (peer c 5) fullShare (comm m) ∗ slotPts c (peer c 6) fullShare (comm m)) ⊢ bigSep Finset.univ fun i : Fin 7 => slotPts c (peer c i) fullShare (comm m) from Entails.of_eq (bigSep_fin7 fun i : Fin 7 => slotPts c (peer c i) fullShare (comm m)).symm) $$ [P0 P1 P2 P3 P4 P5 P6]
  · isplitl [P0]; · iexact P0
    isplitl [P1]; · iexact P1
    isplitl [P2]; · iexact P2
    isplitl [P3]; · iexact P3
    isplitl [P4]; · iexact P4
    isplitl [P5]; · iexact P5
    iexact P6
  ihave HSs := (show iprop(atPos ER (sendCell c 0) 1 ∅ 0 ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0) ⊢ bigSep Finset.univ fun i : Fin 7 => atPos ER (sendCell c i) 1 ∅ 0 from Entails.of_eq (bigSep_fin7 fun i : Fin 7 => atPos ER (sendCell c i) 1 ∅ 0).symm) $$ [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  ihave HVs := (show iprop(atPos ER (recvCell c (peer c 0)) 1 ∅ 0 ∗ atPos ER (recvCell c (peer c 1)) 1 ∅ 0 ∗ atPos ER (recvCell c (peer c 2)) 1 ∅ 0 ∗ atPos ER (recvCell c (peer c 3)) 1 ∅ 0 ∗ atPos ER (recvCell c (peer c 4)) 1 ∅ 0 ∗ atPos ER (recvCell c (peer c 5)) 1 ∅ 0 ∗ atPos ER (recvCell c (peer c 6)) 1 ∅ 0) ⊢ bigSep Finset.univ fun i : Fin 7 => atPos ER (recvCell c (peer c i)) 1 ∅ 0 from Entails.of_eq (bigSep_fin7 fun i : Fin 7 => atPos ER (recvCell c (peer c i)) 1 ∅ 0).symm) $$ [V0 V1 V2 V3 V4 V5 V6]
  · isplitl [V0]; · iexact V0
    isplitl [V1]; · iexact V1
    isplitl [V2]; · iexact V2
    isplitl [V3]; · iexact V3
    isplitl [V4]; · iexact V4
    isplitl [V5]; · iexact V5
    iexact V6
  ihave Hs := (Entails.of_eq (slot_toks c c (comm m)).symm) $$ [HS HQ]
  · isplitl [HS] <;> iassumption
  ihave HC := (Entails.of_eq (commPts_eq c fullShare (comm m)).symm) $$ [Hs HP]
  · isplitl [Hs] <;> iassumption
  imod (close_bar m K c) $$ [HatB] with HzB
  · isplitr; · iexact HR
    iexact HatB
  imod (close_own m K c) $$ [HatO] with HzO
  · isplitr; · iexact HR
    iexact HatO
  imod (close_all Finset.univ (close_send m K c)) $$ [HSs] with HzS
  · isplitr; · iexact HR
    iexact HSs
  imod (close_all Finset.univ (fun i : Fin 7 => close_recv m K c (peer c i))) $$ [HVs] with HzV
  · isplitr; · iexact HR
    iexact HVs
  first | rw [WP_ret] | rw [wp_ret]
  imodintro
  iapply Hk
  unfold corePost counters
  rw [bigSep_dev c (fun o : Dev nD => semVal (recvCell c o) 0)]
  isplitl [HzB HzO HzS HzV]
  · isplitl [HzB]; · iexact HzB
    isplitl [HzS]; · iexact HzS
    isplitl [HzO] <;> iassumption
  isplitl [HC]; · iexact HC
  isplitl [HG]; · iexact HG
  isplitl [HO]; · iexact HO
  isplitl [HX]; · iexact HX
  isplitl [HI]; · iexact HI
  isplitl [HW]; · iexact HW
  iexact HY

end

end Cert.MoE

end
-- ==== Proof.Run.lean ====
/-
# The launch

The ghost state the launch mints, dealt to the eight devices: each device's own cells' positions stay with it, each duty
token goes to the device that pays it (the pairs (device, peer number) turn around by an involution), each device gets
credit for its barrier's seven units and its seven receive cells. Then the run of `main` on the mesh.
-/
module

public import proofs.«01_k».proof.Proof.Body
public import Idealize.ShloMosaic.Lib.Pipeline.CollectiveSegs

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: one point, four whole windows -/

def Φ₀ (c : Dev nD) : sProp (MT nD τ sig Unit (Elt F) ℕ UU ℕ) :=
  iprop(start m c ∗ (∃ f, commPts (F := F) c fullShare f) ∗ ∃ f, gPts (F := F) c f)
def Φ₁ (c : Dev nD) : sProp (MT nD τ sig Unit (Elt F) ℕ UU ℕ) :=
  iprop(counters c ∗ commPts c fullShare (comm m) ∗ gPts c (gAt m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => iAt m c
    | ⟨2, _⟩ => wAt m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0
theorem fin_N (t : Fin cfg0.N) : t = t₀ := fin_N0 t
theorem fetch_0 : (cfg0.win (0 : Fin 4)).fetch t₀ = true := rfl
theorem fetch_1 : (cfg0.win (1 : Fin 4)).fetch t₀ = true := rfl
theorem fetch_2 : (cfg0.win (2 : Fin 4)).fetch t₀ = true := rfl

theorem before_0 (c : Dev nD) (d) : (dats m ρ 0 c).before (0 : Fin 4) t₀ d = xAt m c := by
  unfold Dat.before; rw [if_pos fetch_0]; rfl
theorem before_1 (c : Dev nD) (d) : (dats m ρ 0 c).before (1 : Fin 4) t₀ d = iAt m c := by
  unfold Dat.before; rw [if_pos fetch_1]; rfl
theorem before_2 (c : Dev nD) (d) : (dats m ρ 0 c).before (2 : Fin 4) t₀ d = wAt m c := by
  unfold Dat.before; rw [if_pos fetch_2]; rfl

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents, as the pipeline hands it over. -/
abbrev held (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

def bodyPre (c : Dev nD) : sProp (MT nD τ sig Unit (Elt F) ℕ UU ℕ) :=
  iprop(Φ₀ m c ∗ (dats m ρ 0 c).owesAt () t₀.castSucc
    ∗ (∃ d, held c cc0_stg0_0 ((dats m ρ 0 c).before (0 : Fin 4) t₀ d))
    ∗ (∃ d, held c cc0_stg1_0 ((dats m ρ 0 c).before (1 : Fin 4) t₀ d))
    ∗ (∃ d, held c cc0_stg2_0 ((dats m ρ 0 c).before (2 : Fin 4) t₀ d))
    ∗ (∃ d, held c cc0_stg3_0 ((dats m ρ 0 c).before (3 : Fin 4) t₀ d)))
def bodyPost (c : Dev nD) : sProp (MT nD τ sig Unit (Elt F) ℕ UU ℕ) :=
  iprop(Φ₁ m c ∗ (dats m ρ 0 c).owesAt () t₀.succ
    ∗ held c cc0_stg0_0 (xAt m c) ∗ held c cc0_stg1_0 (iAt m c) ∗ held c cc0_stg2_0 (wAt m c) ∗ held c cc0_stg3_0 (outAt m c))

theorem pre_in (c : Dev nD) : bodyPre m ρ c ⊢ iprop(∃ K, corePre m K c) := by
  unfold bodyPre Φ₀ start corePre
  simp only [before_0, before_1, before_2]
  iintro ⟨⟨⟨⟨%K, Hg⟩, HcB, HcR, HL⟩, HC, HG⟩, Ho, ⟨%d0, %f0, %h0, H0⟩, ⟨%d1, %f1, %h1, H1⟩, ⟨%d2, %f2, %h2, H2⟩, ⟨%d3, %f3, %h3, H3⟩⟩
  subst h0; subst h1; subst h2
  iexists K
  isplitl [Hg]; · iexact Hg
  isplitl [HcB]; · iexact HcB
  isplitl [HcR]; · iexact HcR
  isplitl [HL]; · iexact HL
  isplitl [HC]; · iexact HC
  isplitl [HG]; · iexact HG
  isplitl [Ho]
  · unfold Dat.owesAt Pipeline.owesWithin
    icases Ho with ⟨%W, %hW, HO⟩
    unfold ow
    iexists W; iexact HO
  isplitl [H0]; · iexact H0
  isplitl [H1]; · iexact H1
  isplitl [H2]; · iexact H2
  iexists f3; iexact H3

theorem post_out (c : Dev nD) : corePost m c ⊢ bodyPost m ρ c := by
  unfold corePost bodyPost Φ₁
  iintro ⟨Hz, HC, HG, HO, H0, H1, H2, H3⟩
  isplitl [Hz HC HG]
  · isplitl [Hz]; · iexact Hz
    isplitl [HC]; · iexact HC
    iexact HG
  isplitl [HO]
  · unfold Dat.owesAt Pipeline.owesWithin ow
    icases HO with ⟨%W, HO⟩
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole]
  show bodyPre m ρ c ⊢ wp frame (wpE (defs₀ (F := F)) 𝒱₀ c none) Set.univ
    (cc0_body (F := F) xM (Memref.isWhole_whole _) iM (Memref.isWhole_whole _) wM (Memref.isWhole_whole _) oM (Memref.isWhole_whole _) commM (Memref.isWhole_whole _) gM (Memref.isWhole_whole _) cc0_scratch2 cc0_scratch3) (fun _ => bodyPost m ρ c)
  iintro H
  ihave H' := (pre_in m ρ c) $$ H
  icases H' with ⟨%K, H⟩
  iapply (body_core m K c fun _ => bodyPost m ρ c) $$ [H]
  · iexact H
  iintro H; iapply (post_out m ρ c); iexact H

/-! ## What the launch mints -/

/-- A device's own semaphores: the seven send cells and the eight receive cells. -/
abbrev osem : Fin 7 ⊕ Dev nD → SemLoc sig := fun k => csem (.inr k)
theorem ownSemFacts : Pipeline.OwnSemFacts cfg0.spec osem := by decide

theorem share_eq (c : Dev nD) (w : Fin cfg0.W) : (dats m ρ 0 c).share w = fullShare := by unfold Dat.share; split <;> rfl

def theCells : Finset (GSem nD τ sig) := Finset.univ.map ⟨kcell, kcell_injective⟩

/-- A device's own cells' duty tokens: its barrier's seven, its send cells' one each, its peers' receive cells' one each. -/
def tokOf (x : Dev nD × (Fin 3 × Fin 7)) : GSem nD τ sig × ℕ × Fin 7 := match x.2.1 with
  | 0 => (barCell x.1, 0, x.2.2)
  | 1 => (sendCell x.1 x.2.2, 0, 0)
  | 2 => (recvCell x.1 (peer x.1 x.2.2), 0, 0)
theorem tokOf_injective : Function.Injective tokOf := by
  rintro ⟨c, j, i⟩ ⟨c', j', i'⟩ h
  have h1 : c = c' := by
    have := congrArg (fun x : GSem nD τ sig × ℕ × Fin 7 => x.1.1.1) h
    fin_cases j <;> fin_cases j' <;> exact this
  subst h1
  have hs := congrArg (fun x : GSem nD τ sig × ℕ × Fin 7 => x.1.2) h
  have hd := congrArg (fun x : GSem nD τ sig × ℕ × Fin 7 => x.2.2) h
  fin_cases j <;> fin_cases j'
  · have : i = i' := hd
    rw [this]
  · have := csem_injective (a₁ := bI) (a₂ := sI i') hs; cases this
  · have := csem_injective (a₁ := bI) (a₂ := rI (peer c i')) hs; cases this
  · have := csem_injective (a₁ := sI i) (a₂ := bI) hs; cases this
  · have := csem_injective (a₁ := sI i) (a₂ := sI i') hs
    have : i = i' := by cases this; rfl
    rw [this]
  · have := csem_injective (a₁ := sI i) (a₂ := rI (peer c i')) hs; cases this
  · have := csem_injective (a₁ := rI (peer c i)) (a₂ := bI) hs; cases this
  · have := csem_injective (a₁ := rI (peer c i)) (a₂ := sI i') hs; cases this
  · have := csem_injective (a₁ := rI (peer c i)) (a₂ := rI (peer c i')) hs
    have h2 : peer c i = peer c i' := Sum.inr.inj (Sum.inr.inj this)
    have : i = i' := peer_inj c h2
    rw [this]
def theToks : Finset (GSem nD τ sig × ℕ × Fin 7) := Finset.univ.map ⟨tokOf, tokOf_injective⟩

def u₀ : UU := (initOf (Pipeline.cells cfgs cellOf_inj) (Pipeline.launchToks cfgs cellOf_inj), initOf theCells theToks)

def toks (c : Dev nD) : sProp (MT nD τ sig Unit (Elt F) ℕ UU ℕ) :=
  iprop((bigSep Finset.univ fun i : Fin 7 => dutyTok ER (barCell c) 0 i)
    ∗ (bigSep Finset.univ fun i : Fin 7 => dutyTok ER (sendCell c i) 0 0)
    ∗ bigSep Finset.univ fun i : Fin 7 => dutyTok ER (recvCell c (peer c i)) 0 0)

def G (c : Dev nD) : sProp (MT nD τ sig Unit (Elt F) ℕ UU ℕ) :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)
def G' (c : Dev nD) : sProp (MT nD τ sig Unit (Elt F) ℕ UU ℕ) := iprop(∃ K, ghost m K c)

theorem cells_eq (Φ : GSem nD τ sig → sProp (MT nD τ sig Unit (Elt F) ℕ UU ℕ)) :
    bigSep theCells Φ = bigSep Finset.univ fun c : Dev nD => bigSep Finset.univ fun k : CI => Φ (kcell (c, k)) := by
  unfold theCells; rw [BI.bigSep_map, bigSep_univ_prod]; rfl

omit [FloatOps F] in
theorem bigSep_three (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ

theorem tokens_eq : bigSep theToks (fun x => (dutyTok ER x.1 x.2.1 x.2.2 : sProp (MT nD τ sig Unit (Elt F) ℕ UU ℕ)))
    = bigSep Finset.univ fun c : Dev nD => toks (F := F) c := by
  unfold theToks; rw [BI.bigSep_map, bigSep_univ_prod]
  exact bigSep_congr fun c _ => by unfold toks; rw [bigSep_univ_prod, bigSep_three]; rfl

theorem fund_cells : BI.own (ER (initOf theCells theToks)) ⊢ (|==> bigSep Finset.univ (G m) : sProp (MT nD τ sig Unit (Elt F) ℕ UU ℕ)) := by
  iintro HX
  imod (Rounds.fund ER (Rd m) theCells theToks) $$ HX with ⟨Hst, Hr, Hat, Htok⟩
  imodintro
  ihave Hst' := (Entails.of_eq (cells_eq fun g => roundState ER (Rd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq tokens_eq) $$ Htok
  unfold G; simp only [bigSep_sep']
  isplitl [Hst']; · iexact Hst'
  isplitl [Hat' Hr']
  · isplitl [Hat'] <;> iassumption
  iexact Htok'

/-! ## The counters, and every cell's invariant -/

omit [FloatOps F] in
theorem ownSems0_eq (c : Dev nD) : (Pipeline.ownSems0 (Ix := Unit) (Name := ℕ) (U := UU) (Lvl := ℕ) (Val := Elt F) (τ := τ) osem c : sProp (MT nD τ sig Unit (Elt F) ℕ UU ℕ))
    = iprop((bigSep Finset.univ fun i : Fin 7 => semVal (sendCell c i) 0) ∗ bigSep Finset.univ fun o : Dev nD => semVal (recvCell c o) 0) := by
  unfold Pipeline.ownSems0; rw [BI.bigSep_univ_sum]; rfl
omit [FloatOps F] in
theorem unscopedSems0_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

omit [FloatOps F] in
theorem bigSep_CI (Φ : CI → sProp (MT nD τ sig Unit (Elt F) ℕ UU ℕ)) :
    bigSep Finset.univ Φ = iprop(Φ bI ∗ (bigSep Finset.univ fun i : Fin 7 => Φ (sI i)) ∗ bigSep Finset.univ fun o : Dev nD => Φ (rI o)) := by
  rw [BI.bigSep_univ_sum, BI.bigSep_univ_sum, show (bigSep (Finset.univ : Finset Unit) fun a => Φ (Sum.inl a)) = Φ bI from bigSep_singleton]
  rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp (MT nD τ sig Unit (Elt F) ℕ UU ℕ)) := by
  rw [ownSems0_eq, unscopedSems0_eq, bigSep_CI]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp (MT nD τ sig Unit (Elt F) ℕ UU ℕ)) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to who pays -/

/-- (device, number of its peer) seen from the other side. -/
def turn : Dev nD × Fin 7 ≃ Dev nD × Fin 7 where
  toFun x := (peer x.1 x.2, back x.2)
  invFun x := (peer x.1 x.2, back x.2)
  left_inv x := Prod.ext (peer_back x.1 x.2) (back_back x.2)
  right_inv x := Prod.ext (peer_back x.1 x.2) (back_back x.2)

theorem turn_bar : (bigSep Finset.univ fun c : Dev nD => bigSep Finset.univ fun i : Fin 7 => (dutyTok ER (barCell c) 0 i : sProp (MT nD τ sig Unit (Elt F) ℕ UU ℕ)))
    = bigSep Finset.univ fun c : Dev nD => bigSep Finset.univ fun i : Fin 7 => dutyTok ER (barCell (peer c i)) 0 (back i) := by
  rw [← bigSep_univ_prod (fun x : Dev nD × Fin 7 => (dutyTok ER (barCell x.1) 0 x.2 : sProp (MT nD τ sig Unit (Elt F) ℕ UU ℕ))),
    bigSep_univ_equiv turn, bigSep_univ_prod]; rfl

theorem turn_recv : (bigSep Finset.univ fun c : Dev nD => bigSep Finset.univ fun i : Fin 7 => (dutyTok ER (recvCell c (peer c i)) 0 0 : sProp (MT nD τ sig Unit (Elt F) ℕ UU ℕ)))
    = bigSep Finset.univ fun c : Dev nD => bigSep Finset.univ fun i : Fin 7 => dutyTok ER (recvCell (peer c i) c) 0 0 := by
  rw [← bigSep_univ_prod (fun x : Dev nD × Fin 7 => (dutyTok ER (recvCell x.1 (peer x.1 x.2)) 0 0 : sProp (MT nD τ sig Unit (Elt F) ℕ UU ℕ))),
    bigSep_univ_equiv turn, bigSep_univ_prod]
  exact bigSep_congr fun c _ => bigSep_congr fun i _ => by
    show dutyTok ER (recvCell (peer c i) (peer (peer c i) (back i))) 0 0 = _
    rw [peer_back]

theorem toks_turn : (bigSep Finset.univ fun c : Dev nD => toks (F := F) c) ⊢ bigSep Finset.univ fun c : Dev nD => payToks (F := F) c := by
  unfold toks payToks
  rw [bigSep_sep', bigSep_sep', bigSep_sep', bigSep_sep', turn_bar, turn_recv]

theorem places_eq (c : Dev nD) : (bigSep Finset.univ fun k : CI => (atPos ER (kcell (c, k)) 0 ∅ 0 : sProp (MT nD τ sig Unit (Elt F) ℕ UU ℕ))) = places c := by
  unfold places
  rw [bigSep_CI, bigSep_dev c]
  rfl

theorem bigSep_with {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m K ∗ iprop(places c ∗ payToks c)) ⊢ G' m c := by
  unfold G' ghost
  iintro ⟨HR, HP, HT⟩
  iexists K
  isplitl [HR]; · iexact HR
  isplitl [HP]; · iexact HP
  iexact HT

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp (MT nD τ sig Unit (Elt F) ℕ UU ℕ))
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp (MT nD τ sig Unit (Elt F) ℕ UU ℕ))) (fun k => reached ER (kcell (c, k)) 0)),
    bigSep_sep', ← bigSep_univ_prod (fun ck : Dev nD × CI => (reached ER (kcell ck) 0 : sProp (MT nD τ sig Unit (Elt F) ℕ UU ℕ))),
    bigSep_congr (s := Finset.univ) (fun (c : Dev nD) _ => places_eq (F := F) c)]
  iintro ⟨HI, ⟨Hat, #HR⟩, Htok⟩
  ihave HK := (BI.bigSep_exists_pi Finset.univ (fun (ck : Dev nD × CI) (κ : ℕ) => (cellInv ER (Rd m) κ (kcell ck) : sProp (MT nD τ sig Unit (Elt F) ℕ UU ℕ)))) $$ HI
  icases HK with ⟨%K, #HI⟩
  ihave Htk := (toks_turn (F := F)) $$ Htok
  iapply (bigSep_with (R := records m K) fun c _ => ghost_intro m K c)
  isplitr
  · unfold records; isplitl; · iexact HI
    iexact HR
  · iapply (Entails.of_eq (bigSep_sep' Finset.univ (fun c : Dev nD => places (F := F) c) (fun c => payToks (F := F) c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem recv_eq_iff {a b o o' : Dev nD} : recvCell a o = recvCell b o' ↔ a = b ∧ o = o' := by
  constructor
  · intro h
    have := kcell_injective (a₁ := (a, rI o)) (a₂ := (b, rI o')) h
    exact ⟨congrArg Prod.fst this, Sum.inr.inj (Sum.inr.inj (congrArg Prod.snd this))⟩
  · rintro ⟨rfl, rfl⟩; rfl
theorem bar_ne_recv (a b o : Dev nD) : barCell a ≠ recvCell b o := fun h => by
  have := kcell_injective (a₁ := (a, bI)) (a₂ := (b, rI o)) h
  cases this

theorem owed_bar (d c : Dev nD) : O₀ d (barCell c) () = ∑ i : Fin 7, if c = peer d i then 1 else 0 := by
  rw [O₀_eq, Pi.add_apply, Finsupp.add_apply, Finset.sum_apply, Finset.sum_apply, Finsupp.finset_sum_apply, Finsupp.finset_sum_apply,
    Finset.sum_eq_zero (fun i _ => by rw [tallyAt_apply, if_neg fun h => bar_ne_recv _ _ _ h.1]), Nat.zero_add]
  exact Finset.sum_congr rfl fun i _ => by
    rw [tallyAt_apply]
    exact if_congr (by rw [bar_eq_iff]; exact ⟨fun h => h.1, fun h => ⟨h, rfl⟩⟩) rfl rfl
theorem owed_recv (d c o : Dev nD) : O₀ d (recvCell c o) () = (∑ i : Fin 7, if c = peer d i ∧ o = d then 1 else 0) * N := by
  rw [O₀_eq, Pi.add_apply, Finsupp.add_apply, Finset.sum_apply, Finset.sum_apply, Finsupp.finset_sum_apply, Finsupp.finset_sum_apply,
    Finset.sum_eq_zero (s := Finset.univ) (f := fun i => tallyAt (barCell (peer d i)) () 1 (recvCell c o) ())
      (fun i _ => by rw [tallyAt_apply, if_neg fun h => bar_ne_recv _ _ _ h.1.symm]), Nat.add_zero, Finset.sum_mul]
  exact Finset.sum_congr rfl fun i _ => by
    rw [tallyAt_apply, ite_mul, Nat.one_mul, Nat.zero_mul]
    exact if_congr (by rw [recv_eq_iff]; exact ⟨fun h => h.1, fun h => ⟨h, rfl⟩⟩) rfl rfl

theorem count_bar : ∀ c : Dev nD, (∑ d : Dev nD, ∑ i : Fin 7, if c = peer d i then 1 else 0) = 7 := by decide +kernel
theorem count_recv : ∀ (c : Dev nD) (j : Fin 7), (∑ d : Dev nD, ∑ i : Fin 7, if c = peer d i ∧ peer c j = d then 1 else 0) = 1 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
theorem launch_recv (c : Dev nD) (j : Fin 7) :
    tallyOn (recvCell c (peer c j)) (launchCredit (Pipeline.owing O₀) 0 (recvCell c (peer c j))) = (tallyAt (recvCell c (peer c j)) () N : CellTallies nD τ sig Unit) := by
  unfold tallyAt; refine congrArg _ (Finsupp.ext fun u => ?_); cases u
  rw [Pipeline.launchCredit_owing, Finsupp.single_eq_same, Finset.sum_congr rfl fun d _ => owed_recv d c (peer c j), ← Finset.sum_mul, count_recv, Nat.one_mul]

/-- The semaphores device `c` gets credit for. -/
def credSem (c : Dev nD) : Unit ⊕ Fin 7 → SemLoc sig := fun k => csem (k.elim (fun _ => bI) fun i => rI (peer c i))
theorem credSem_injective (c : Dev nD) : Function.Injective (credSem c) := by
  rintro (⟨⟩ | i) (⟨⟩ | j) h
  · rfl
  · have := csem_injective h; cases this
  · have := csem_injective h; cases this
  · have h2 : peer c i = peer c j := Sum.inr.inj (Sum.inr.inj (csem_injective h))
    rw [peer_inj c h2]

omit [FloatOps F] in
theorem creds (c : Dev nD) :
    (Pipeline.launchCred O₀ c : sProp (MT nD τ sig Unit (Elt F) ℕ UU ℕ))
      ⊢ iprop(cred (tallyAt (barCell c) () 7) ∗ bigSep Finset.univ fun i : Fin 7 => cred (tallyAt (recvCell c (peer c i)) () N)) := by
  unfold Pipeline.launchCred
  refine (BI.bigSep_subset (t := Finset.univ.map ⟨credSem c, credSem_injective c⟩) (Finset.subset_univ _)).trans ?_
  rw [BI.bigSep_map, BI.bigSep_univ_sum]
  refine sep_mono ?_ ?_
  · exact Entails.of_eq ((bigSep_singleton (i := ())).trans (congrArg cred (launch_bar c)))
  · exact bigSep_mono fun i _ => Entails.of_eq (congrArg cred (launch_recv c i))

/-! ## The launch theorem's side conditions -/

/-- The router's weights, which the kernel never reads. -/
def unread (c : Dev nD) : sProp (MT nD τ sig Unit (Elt F) ℕ UU ℕ) :=
  ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unread m c) := by
  rw [Pipeline.unscopedRestP_none, unscopedRest0_eq]
  iintro ⟨H1, Hlev, Hcr, -, HG⟩
  ihave Hc := (creds (F := F) c) $$ Hcr
  icases Hc with ⟨HB, HN⟩
  imodintro
  unfold start G' unread
  isplitr [H1]
  · isplitl [HG]; · iexact HG
    isplitl [HB]; · iexact HB
    isplitl [HN]; · iexact HN
    iexact Hlev
  · iexact H1

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ commPts
  iintro ⟨Hs, -, HC, HG⟩
  isplitl [Hs]; · iexact Hs
  isplitl [HC]; · iexact HC
  iexact HG

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ counters commPts
  iintro ⟨⟨HB, HS, HV⟩, HC, HG⟩
  isplitl [HB]; · iexact HB
  isplitl [HS HV]
  · isplitl [HS]; · iexact HS
    iexact HV
  isplitl [HC]
  · iexists _; iexact HC
  iexists _; iexact HG

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The memory after the run: every window's array, and the router's weights, on every device. -/
def QC (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg1) = m ((c : Thread nD τ).loc main_arg1)

theorem unread_read (c : Dev nD) (s' : Phys nD τ sig (Elt F)) :
    iprop(unscopedSems0 c ∗ unread m c ∗ SI s') ⊢ |={Set.univ}=>
      iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ (SI s' : sProp (MT nD τ sig Unit (Elt F) ℕ UU ℕ))) := by
  unfold unread
  iintro ⟨Hu, Hr, HSI⟩
  ihave H := (persistent_entails_right (SI_pointsTo_agree (st := s') (ℓ := (c : Thread nD τ).loc main_arg1) (I := Finset.univ) (q := fullShare) (f := m ((c : Thread nD τ).loc main_arg1)))) $$ [HSI Hr]
  · isplitl [HSI] <;> iassumption
  icases H with ⟨%hm, HSI, Hr⟩
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hm i (Finset.mem_univ _)⟩
  iexact HSI

set_option maxRecDepth 8000 in
/-- At the eight devices, for any float values, from any memory with zero counters: every weakly fair execution of @main
    terminates, and every final state has each device's result array at the computed contents, the inputs unchanged and
    every semaphore counter at zero. -/
theorem run_main : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := unread m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => unread_read m c s')
    (hQ := fun _ h hs => ⟨fun c => ⟨fun w => (h c).1 w, (h c).2.2.2⟩, sem_eq_zero hs fun c => (h c).2.2.1⟩)

theorem finalA_x (c : Dev nD) : finalA m ρ c (0 : Fin 4) = m ((c : Thread nD τ).loc main_arg0) := (dats m ρ 0 c).arrAt_in (0 : Fin 4) rfl _
theorem finalA_i (c : Dev nD) : finalA m ρ c (1 : Fin 4) = m ((c : Thread nD τ).loc main_arg2) := (dats m ρ 0 c).arrAt_in (1 : Fin 4) rfl _
theorem finalA_w (c : Dev nD) : finalA m ρ c (2 : Fin 4) = m ((c : Thread nD τ).loc main_arg3) := (dats m ρ 0 c).arrAt_in (2 : Fin 4) rfl _

end Cert.MoE

end
-- ==== Proof.Rank.lean ====
/-
# A token's place among the tokens of its expert

The kernel counts, for every token, how many tokens up to it chose the same expert, by a log-step scan over the
2048×64 table of one-hot rows: eleven times the table is added to itself moved down by 1, 2, 4, … 1024 rows. `cnt e t`
is the number of EARLIER tokens with `t`'s expert; this file shows that the kernel's word for token `t` is that number.
-/
module

public import proofs.«01_k».proof.Proof.Blocks
public import Idealize.ShloMosaic.Lib.Pointwise
public import Idealize.ShloMosaic.Lib.Pointwise.IndexVar
public import Mathlib.Data.BitVec

@[expose] public section

set_option maxRecDepth 16384

noncomputable section

namespace Cert.MoE

open Cert.KernelIdeal Cert.KernelIdeal.Gen
open Idealize.ShloMosaic Idealize.ShloMosaic.TcCoe

variable {F : FTy → Type} [FloatOps F]

/-- The number of tokens before `t` that chose `t`'s expert. -/
def cnt (e : Fin 2048 → BitVec 32) (t : Fin 2048) : ℕ := (Finset.univ.filter fun u => u < t ∧ e u = e t).card

theorem cnt_lt (e : Fin 2048 → BitVec 32) (t : Fin 2048) : cnt e t < 2048 := by
  have h : (Finset.univ.filter fun u => u < t ∧ e u = e t) ⊆ Finset.univ.filter fun u => u < t :=
    fun u hu => by simp only [Finset.mem_filter] at hu ⊢; exact ⟨hu.1, hu.2.1⟩
  have h1 := Finset.card_le_card h
  have h2 : (Finset.univ.filter fun u : Fin 2048 => u < t).card = t.val := by
    rw [show (Finset.univ.filter fun u : Fin 2048 => u < t) = Finset.Iio t from by ext u; simp, Fin.card_Iio]
  unfold cnt; omega

/-- Among tokens of one expert the count grows strictly. -/
theorem cnt_strict (e : Fin 2048 → BitVec 32) {s t : Fin 2048} (hst : s < t) (he : e s = e t) : cnt e s < cnt e t := by
  refine Finset.card_lt_card (Finset.ssubset_iff_of_subset ?_ |>.mpr ⟨s, ?_, ?_⟩)
  · intro u hu
    simp only [Finset.mem_filter, Finset.mem_univ, true_and] at hu ⊢
    exact ⟨hu.1.trans hst, hu.2.trans he⟩
  · simp only [Finset.mem_filter, Finset.mem_univ, true_and]; exact ⟨hst, he⟩
  · simp

theorem cnt_inj (e : Fin 2048 → BitVec 32) {s t : Fin 2048} (he : e s = e t) (h : cnt e s = cnt e t) : s = t := by
  rcases lt_trichotomy s t with hst | hst | hst
  · exact absurd h (cnt_strict e hst he).ne
  · exact hst
  · exact absurd h (cnt_strict e hst he.symm).ne'

/-- The sum of the last `n` entries up to `t`. -/
def psum (n : ℕ) (a : Fin 2048 → BitVec 32) (t : Fin 2048) : BitVec 32 := ∑ u, if u.val ≤ t.val ∧ t.val < u.val + n then a u else 0

theorem psum_one (a : Fin 2048 → BitVec 32) (t : Fin 2048) : psum 1 a t = a t := by
  unfold psum
  rw [Finset.sum_eq_single t]
  · rw [if_pos ⟨le_rfl, by omega⟩]
  · intro u _ hu
    rw [if_neg (fun h => hu (Fin.ext (by omega)))]
  · intro h; exact absurd (Finset.mem_univ t) h

theorem psum_double (n : ℕ) (a : Fin 2048 → BitVec 32) (t : Fin 2048) :
    psum n a t + (if h : t.val < n then 0 else psum n a ⟨t.val - n, by omega⟩) = psum (n + n) a t := by
  unfold psum
  by_cases h : t.val < n
  · rw [dif_pos h, add_zero]
    refine Finset.sum_congr rfl fun u _ => ?_
    by_cases h1 : u.val ≤ t.val ∧ t.val < u.val + n
    · rw [if_pos h1, if_pos ⟨h1.1, by omega⟩]
    · rw [if_neg h1, if_neg (fun h2 => h1 ⟨h2.1, by omega⟩)]
  · rw [dif_neg h, ← Finset.sum_add_distrib]
    refine Finset.sum_congr rfl fun u _ => ?_
    dsimp only
    by_cases h1 : u.val ≤ t.val ∧ t.val < u.val + n
    · rw [if_pos h1, if_neg (fun h2 => by omega), if_pos ⟨h1.1, by omega⟩, add_zero]
    · rw [if_neg h1, zero_add]
      by_cases h2 : u.val ≤ t.val - n ∧ t.val - n < u.val + n
      · rw [if_pos h2, if_pos (by omega)]
      · rw [if_neg h2, if_neg (by omega)]

/-- A table whose entry at row `t`, column `k` is the sum of the last `n` entries of column `k` of `a`. -/
def IsWin (n : ℕ) (a : Fin 2048 → Fin 64 → BitVec 32) (v : IVec S2048x64 32) : Prop :=
  ∀ (t : Fin 2048) (k : Fin 64), v (ix2 t k) = psum n (fun u => a u k) t

/-- One step of the scan: the table plus itself moved down by `n` rows. -/
theorem isWin_step {n r : ℕ} {a : Fin 2048 → Fin 64 → BitVec 32} {v : IVec S2048x64 32} (h : IsWin n a v)
    (hs : S2048x64.Slices ![0, 0] ⟨2, ![r, 64]⟩) (hc : Shape.Concatenates [⟨2, ![n, 64]⟩, ⟨2, ![r, 64]⟩] S2048x64 0) :
    IsWin (n + n) a (addi v (concatenate S2048x64 0 [⟨⟨2, ![n, 64]⟩, broadcast ⟨2, ![n, 64]⟩ 0#32⟩,
      ⟨⟨2, ![r, 64]⟩, extractStridedSlice ⟨2, ![r, 64]⟩ ![0, 0] v hs⟩] hc)) := by
  intro t k
  rw [← psum_double]
  pointwise
  show v (ix2 t k) + _ = _
  rw [h t k]
  split
  · rfl
  · rw [h]

/-- The tokens' ids as a function of the token. -/
def idOf (I : Vec F S2048x1 .i32) (t : Fin 2048) : BitVec 32 := I (ix2 t 0)

/-- The one-hot word of token `u` in column `k`. -/
def oh (I : Vec F S2048x1 .i32) (u : Fin 2048) (k : Fin 64) : BitVec 32 :=
  if idOf I u = BitVec.ofNat 32 k.val then 1 else 0

theorem pay2_apply (I : Vec F S2048x1 .i32) (t : Fin 2048) (k : Fin 64) :
    k0_pay2 (F := F) I (ix2 t k) = if idOf I t = BitVec.ofNat 32 k.val then 1#1 else 0#1 := by
  unfold k0_pay2 k0_pay1
  pointwise
  unfold idOf
  by_cases h : I (ix2 t 0) = BitVec.ofNat 32 k.val
  · rw [if_pos h, h]; simp [IntOp.cmpi]
  · rw [if_neg h]
    exact congrArg BitVec.ofBool (beq_eq_false_iff_ne.mpr h)

theorem isWin_one (I : Vec F S2048x1 .i32) : IsWin 1 (oh I) (extui 32 (k0_pay2 (F := F) I) natLt_1_32) := by
  intro t k
  rw [psum_one]
  show (k0_pay2 (F := F) I (ix2 t k)).setWidth 32 = _
  rw [pay2_apply, oh]
  split <;> rfl

theorem isWin_pay3 (I : Vec F S2048x1 .i32) : IsWin 1024 (oh I) (k0_pay3 (F := F) I) := by
  unfold k0_pay3
  exact isWin_step (n := 512) (isWin_step (n := 256) (isWin_step (n := 128) (isWin_step (n := 64) (isWin_step (n := 32)
    (isWin_step (n := 16) (isWin_step (n := 8) (isWin_step (n := 4) (isWin_step (n := 2) (isWin_step (n := 1)
    (isWin_one I) _ _) _ _) _ _) _ _) _ _) _ _) _ _) _ _) _ _) _ _

theorem isWin_all (I : Vec F S2048x1 .i32) : IsWin 2048 (oh I) (addi (k0_pay3 (F := F) I) (k0_pay4 (F := F) I)) := by
  unfold k0_pay4
  exact isWin_step (n := 1024) (isWin_pay3 I) _ _

theorem psum_all (a : Fin 2048 → BitVec 32) (t : Fin 2048) : psum 2048 a t = ∑ u, if u ≤ t then a u else 0 := by
  unfold psum
  refine Finset.sum_congr rfl fun u _ => ?_
  have := t.isLt
  by_cases h : u ≤ t
  · rw [if_pos ⟨h, by omega⟩, if_pos h]
  · rw [if_neg (fun h2 => h h2.1), if_neg h]

/-- The column of a token's own expert, up to that token: one more than the tokens before it. -/
theorem psum_own (I : Vec F S2048x1 .i32) (t : Fin 2048) (k : Fin 64) (hk : idOf I t = BitVec.ofNat 32 k.val) :
    psum 2048 (fun u => oh I u k) t = BitVec.ofNat 32 (cnt (idOf I) t) + 1 := by
  rw [psum_all]
  have e1 : ∀ u, (if u ≤ t then oh I u k else 0) = if u ≤ t ∧ idOf I u = idOf I t then (1 : BitVec 32) else 0 := by
    intro u
    unfold oh
    rw [hk, ite_and]
  simp only [e1]
  rw [Finset.sum_boole]
  have e2 : (Finset.univ.filter fun u => u ≤ t ∧ idOf I u = idOf I t)
      = insert t (Finset.univ.filter fun u => u < t ∧ idOf I u = idOf I t) := by
    ext u
    simp only [Finset.mem_filter, Finset.mem_univ, true_and, Finset.mem_insert]
    constructor
    · rintro ⟨h1, h2⟩
      rcases eq_or_lt_of_le h1 with h | h
      · exact Or.inl h
      · exact Or.inr ⟨h, h2⟩
    · rintro (rfl | ⟨h1, h2⟩)
      · exact ⟨le_rfl, rfl⟩
      · exact ⟨h1.le, h2⟩
  rw [e2, Finset.card_insert_of_notMem (by simp), Nat.cast_add, Nat.cast_one]
  rfl

/-- The kernel's rank of a token is the number of earlier tokens of its expert. -/
theorem rank_apply (I : Vec F S2048x1 .i32) (t : Fin 2048) (k : Fin 64) (hk : idOf I t = BitVec.ofNat 32 k.val) :
    rank I (ix2 t 0) = BitVec.ofNat 32 (cnt (idOf I) t) := by
  unfold rank k0_pay5
  have h : ∀ k', (addi (k0_pay3 (F := F) I) (k0_pay4 (F := F) I)) (ix2 t k') = _ := isWin_all I t
  pointwise at h ⊢
  have e : (fun x => Scalar.select (k0_pay2 (F := F) I (ix2 t x)) (IntOp.addi (k0_pay3 (F := F) I (ix2 t x)) (k0_pay4 (F := F) I (ix2 t x))) 0#32)
      = fun x => if x = k then BitVec.ofNat 32 (cnt (idOf I) t) + 1 else 0 := by
    funext x
    rw [h x, pay2_apply]
    by_cases hx : x = k
    · subst hx
      rw [if_pos hk, if_pos rfl, psum_own I t x hk]
      rfl
    · rw [if_neg, if_neg hx]
      · rfl
      · rw [hk]
        intro h2
        have h3 := congrArg BitVec.toNat h2
        simp only [BitVec.toNat_ofNat] at h3
        exact hx (Fin.ext (by have := x.isLt; have := k.isLt; omega))
  rw [e]
  have e2 : ∀ f : Fin 64 → BitVec 32, Finset.fold IntOp.addi (0#32) f Finset.univ = ∑ x, f x := fun f => by
    rw [Finset.sum_eq_fold]; rfl
  rw [e2, Finset.sum_ite_eq', if_pos (Finset.mem_univ k)]
  show BitVec.ofNat 32 _ + 1 - 1 = _
  rw [add_sub_cancel_right]

end Cert.MoE
-- ==== Proof.Rows.lean ====
/-
# The exchange row of a token

A token of expert `k` that is the `n`-th of its expert, `n < 25`, has its product in row `32 k + n` of the exchange
buffer; any later token of that expert has none, and the kernel's row word is then `-1`. Two tokens never share a row.
-/
module

public import proofs.«01_k».proof.Proof.Rank

@[expose] public section

set_option maxRecDepth 16384

noncomputable section

namespace Cert.MoE

open Cert.KernelIdeal Cert.KernelIdeal.Gen
open Idealize.ShloMosaic Idealize.ShloMosaic.TcCoe

variable {F : FTy → Type} [FloatOps F]

/-- The quotient by eight as the kernel computes it on words. -/
def quo (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 8#32 0#32)) (Scalar.extui (Scalar.cmpi .slt 8#32 0#32))))
      (IntOp.cmpi .ne (IntOp.remsi ArithUnit.vector w 8#32) 0#32))
    (IntOp.subi (IntOp.divsi ArithUnit.vector w 8#32) 1#32) (IntOp.divsi ArithUnit.vector w 8#32)
/-- The remainder by eight as the kernel computes it on words. -/
def rmd (w : BitVec 32) : BitVec 32 :=
  Scalar.select (IntOp.andi (IntOp.xori (IntOp.cmpi .slt (IntOp.remsi ArithUnit.vector w eight) 0#32) (Scalar.cmpi .slt eight 0#32))
      (IntOp.cmpi .ne (IntOp.remsi ArithUnit.vector w eight) 0#32))
    (IntOp.addi (IntOp.remsi ArithUnit.vector w eight) eight) (IntOp.remsi ArithUnit.vector w eight)

theorem quo_ofNat : ∀ k : Fin 64, quo (BitVec.ofNat 32 k.val) = BitVec.ofNat 32 (k.val / 8) := by decide +kernel
theorem rmd_ofNat : ∀ k : Fin 64, rmd (BitVec.ofNat 32 k.val) = BitVec.ofNat 32 (k.val % 8) := by decide +kernel
theorem min_ofNat : ∀ n : Fin 25, IntOp.minsi (BitVec.ofNat 32 n.val) 31#32 = BitVec.ofNat 32 n.val := by decide +kernel
theorem slt_ofNat (n : ℕ) (h : n < 2048) : IntOp.cmpi .slt (BitVec.ofNat 32 n) 25#32 = BitVec.ofBool (decide (n < 25)) := by
  have e : ∀ n : Fin 2048, IntOp.cmpi .slt (BitVec.ofNat 32 n.val) 25#32 = BitVec.ofBool (decide (n.val < 25)) := by decide +kernel
  exact e ⟨n, h⟩

theorem rowOf_words (I : Vec F S2048x1 .i32) (t : Fin 2048) (r : BitVec 32) (hr : rank I (ix2 t 0) = r) :
    rowOf I (ix2 t 0) = Scalar.select (IntOp.cmpi .slt r 25#32)
      (IntOp.addi (IntOp.muli (quo (idOf I t)) 256#32) (IntOp.addi (IntOp.muli (rmd (idOf I t)) 32#32) (IntOp.minsi r 31#32)))
      4294967295#32 := by
  subst hr
  unfold rowOf valid k0_pay12 k0_pay6 k0_pay7 k0_pay9 k0_pay10 k0_pay11 k0_pay8
  unfold ids k0_pay1
  pointwise
  rfl

/-- The row of a token: `32 k + n` for the `n`-th token of expert `k`, and none from the 26th token on. -/
theorem rowOf_apply (I : Vec F S2048x1 .i32) (t : Fin 2048) (k : Fin 64) (hk : idOf I t = BitVec.ofNat 32 k.val) :
    rowOf I (ix2 t 0) = if cnt (idOf I) t < 25 then BitVec.ofNat 32 (32 * k.val + cnt (idOf I) t) else 4294967295#32 := by
  rw [rowOf_words I t _ (rank_apply I t k hk), slt_ofNat _ (cnt_lt _ _), hk, quo_ofNat, rmd_ofNat]
  by_cases h : cnt (idOf I) t < 25
  · rw [if_pos h, min_ofNat ⟨_, h⟩, decide_eq_true h]
    show BitVec.ofNat 32 (k.val / 8) * 256#32 + (BitVec.ofNat 32 (k.val % 8) * 32#32 + BitVec.ofNat 32 (cnt (idOf I) t)) = _
    apply BitVec.eq_of_toNat_eq
    have := k.isLt
    simp only [BitVec.toNat_add, BitVec.toNat_mul, BitVec.toNat_ofNat]
    omega
  · rw [if_neg h, decide_eq_false h]
    rfl

/-- Whether token `t` sits in row `s` of the exchange buffer. -/
def Sits (e : Fin 2048 → BitVec 32) (t : Fin 2048) (s : ℕ) : Prop := cnt e t < 25 ∧ s = 32 * (e t).toNat + cnt e t

theorem rowOf_eq_iff (I : Vec F S2048x1 .i32) (hI : ∀ t, (idOf I t).toNat < 64) (t : Fin 2048) (s : ℕ) (hs : s < 2048) :
    rowOf I (ix2 t 0) = BitVec.ofNat 32 s ↔ Sits (idOf I) t s := by
  have hk : idOf I t = BitVec.ofNat 32 (⟨(idOf I t).toNat, hI t⟩ : Fin 64).val := by simp
  rw [rowOf_apply I t _ hk]
  unfold Sits
  have h64 := hI t
  dsimp only
  by_cases h : cnt (idOf I) t < 25
  · rw [if_pos h]
    constructor
    · intro h2
      have h3 := congrArg BitVec.toNat h2
      simp only [BitVec.toNat_ofNat] at h3
      exact ⟨h, by omega⟩
    · rintro ⟨_, rfl⟩
      rfl
  · rw [if_neg h]
    constructor
    · intro h2
      have h3 := congrArg BitVec.toNat h2
      simp only [BitVec.toNat_ofNat] at h3
      omega
    · rintro ⟨h2, _⟩
      exact absurd h2 h

/-- A row holds at most one token. -/
theorem Sits.inj {e : Fin 2048 → BitVec 32} {t u : Fin 2048} {s : ℕ} (h : Sits e t s) (h' : Sits e u s) : t = u := by
  obtain ⟨h1, h2⟩ := h
  obtain ⟨h3, h4⟩ := h'
  exact cnt_inj e (BitVec.eq_of_toNat_eq (by omega)) (by omega)

end Cert.MoE
-- ==== Proof.Value.lean ====
/-
# The kernel's result on the extended reals

On the extended reals a change of format is the identity and a product with a one-hot matrix selects a row (`0 · ∞ = 0`
there), so a device's result row for token `t` is the token's row times its expert's matrix if the token is among the
first 25 of that expert, and 0 otherwise.
-/
module

public import proofs.«01_k».proof.Proof.Rows

@[expose] public section

set_option maxRecDepth 16384

noncomputable section

namespace Cert.MoE

open Cert.KernelIdeal Cert.KernelIdeal.Gen
open Idealize.ShloMosaic Idealize.ShloMosaic.TcCoe

/-- An equality bit as a number of the extended reals. -/
theorem bit_real (a b : BitVec 32) :
    FloatOps.sitofp (F := Ideal) FTy.f32 (BitVec.setWidth 32 (IntOp.cmpi CmpIPredicate.eq a b)) = if a = b then (1 : EReal) else 0 := by
  by_cases h : a = b
  · subst h
    rw [if_pos rfl, show IntOp.cmpi CmpIPredicate.eq a a = 1#1 from by simp [IntOp.cmpi]]
    show (((BitVec.setWidth 32 1#1).toInt : ℝ) : EReal) = 1
    simp
  · rw [if_neg h, show IntOp.cmpi CmpIPredicate.eq a b = 0#1 from congrArg BitVec.ofBool (beq_eq_false_iff_ne.mpr h)]
    show (((BitVec.setWidth 32 0#1).toInt : ℝ) : EReal) = 0
    simp

/-- A one-hot sum is its one term. -/
theorem sum_sel {n : ℕ} (p : Fin n → Prop) [DecidablePred p] (f : Fin n → EReal) (t : Fin n) (ht : p t) (hu : ∀ u, p u → u = t) :
    ∑ x, (if p x then (1 : EReal) else 0) * f x = f t := by
  rw [Finset.sum_eq_single t]
  · rw [if_pos ht, one_mul]
  · intro u _ hne
    rw [if_neg (fun h => hne (hu u h)), zero_mul]
  · intro h; exact absurd (Finset.mem_univ t) h

/-- Row `q` of what device `d` gathers is the row of the token sitting in row `256 d + q`. -/
theorem pick_apply (I : Vec Ideal S2048x1 .i32) (hI : ∀ t, (idOf I t).toNat < 64) (d : Fin 8) (X : Vec Ideal S2048x512 .f32)
    (q : Fin 256) (k : Fin 512) (t : Fin 2048) (ht : Sits (idOf I) t (256 * d.val + q.val)) :
    pick I (BitVec.ofNat 32 d.val) X (ix2 q k) = X (ix2 t k) := by
  unfold pick k0_pay13
  pointwise
  simp only [bit_real]
  have hq := q.isLt
  have hd := d.isLt
  have e : IntOp.addi (BitVec.ofNat 32 q.val) (Scalar.muli (BitVec.ofNat 32 d.val) 256#32) = BitVec.ofNat 32 (256 * d.val + q.val) := by
    show BitVec.ofNat 32 q.val + BitVec.ofNat 32 d.val * 256#32 = _
    apply BitVec.eq_of_toNat_eq
    simp only [BitVec.toNat_add, BitVec.toNat_mul, BitVec.toNat_ofNat]
    omega
  rw [e]
  have hs : 256 * d.val + q.val < 2048 := by omega
  refine sum_sel (fun x => rowOf I (ix2 x 0) = BitVec.ofNat 32 (256 * d.val + q.val)) (fun x => X (ix2 x k)) t
    ((rowOf_eq_iff I hI t _ hs).mpr ht) fun u hu => ?_
  exact Sits.inj ((rowOf_eq_iff I hI u _ hs).mp hu) ht

/-- The product stored for expert `j`: the gathered rows `32 j …` times its matrix. -/
theorem blkOf_apply (d : BitVec 32) (X : Vec Ideal S2048x512 .f32) (I : Vec Ideal S2048x1 .i32)
    (W : (cc0_stg2_0 : Ref sig .tc).ty.Contents (Elt Ideal)) (j : Fin 8) (r : Fin 32) (h : Fin 1024) :
    blkOf d X I W j (ix2 r h) = ∑ x : Fin 512, pick I d X (ix2 (⟨32 * j.val + r.val, by omega⟩ : Fin 256) x) * wsl W j (ix3 0 x h) := by
  unfold blkOf
  match j with
  | 0 => unfold prod0 k0_pay14; pointwise
  | 1 => unfold k0_pay16 pick1 k0_pay15; pointwise
  | 2 => unfold k0_pay17; pointwise
  | 3 => unfold k0_pay18; pointwise
  | 4 => unfold k0_pay19; pointwise
  | 5 => unfold k0_pay20; pointwise
  | 6 => unfold k0_pay22 k0_pay21; pointwise
  | 7 => unfold k0_pay23; pointwise

theorem me_eq : ∀ c : Dev nD, me c = BitVec.ofNat 32 c.val := by decide +kernel

variable (m : (ℓ : Loc nD τ sig) → Buf (Elt Ideal) ℓ)

/-- The exchange buffer at the row of token `t`: the token's row times its expert's matrix. -/
theorem comm_apply (X : Vec Ideal S2048x512 .f32) (I : Vec Ideal S2048x1 .i32) (W : Fin 64 → Fin 512 → Fin 1024 → EReal)
    (hX : ∀ c, xAt m c = X) (hi : ∀ c, iAt m c = I)
    (hW : ∀ (c : Dev nD) (j : Fin 8) x h, wsl (wAt m c) j (ix3 0 x h) = W ⟨8 * c.val + j.val, by have : c.val < 8 := c.isLt; omega⟩ x h)
    (hI : ∀ t, (idOf I t).toNat < 64) (t s : Fin 2048) (h : Fin 1024) (ht : Sits (idOf I) t s.val) :
    comm (F := Ideal) m (ix2 s h) = ∑ x : Fin 512, X (ix2 t x) * W ⟨(idOf I t).toNat, hI t⟩ x h := by
  have hs := s.isLt
  have hk := hI t
  obtain ⟨h25, hst⟩ := ht
  have ht : Sits (idOf I) t s.val := ⟨h25, hst⟩
  show blk m ⟨s.val / 256, _⟩ ⟨s.val % 256 / 32, _⟩ (ix2 (⟨s.val % 32, _⟩ : Fin 32) h) = _
  unfold blk
  rw [blkOf_apply]
  refine Finset.sum_congr rfl fun x _ => ?_
  rw [hX, hi, me_eq, hW]
  congr 1
  · refine pick_apply I hI ⟨s.val / 256, _⟩ X _ x t ?_
    have : 256 * (s.val / 256) + (32 * (s.val % 256 / 32) + s.val % 32) = s.val := by omega
    dsimp only
    rw [this]
    exact ht
  · congr 1
    apply Fin.ext
    dsimp only
    omega

/-- Every device's result row for token `t`. -/
theorem out_apply (X : Vec Ideal S2048x512 .f32) (I : Vec Ideal S2048x1 .i32) (W : Fin 64 → Fin 512 → Fin 1024 → EReal)
    (hX : ∀ c, xAt m c = X) (hi : ∀ c, iAt m c = I)
    (hW : ∀ (c : Dev nD) (j : Fin 8) x h, wsl (wAt m c) j (ix3 0 x h) = W ⟨8 * c.val + j.val, by have : c.val < 8 := c.isLt; omega⟩ x h)
    (hI : ∀ t, (idOf I t).toNat < 64) (c : Dev nD) (t : Fin 2048) (h : Fin 1024) :
    outAt (F := Ideal) m c (ix2 t h) = if cnt (idOf I) t < 25 then ∑ x : Fin 512, X (ix2 t x) * W ⟨(idOf I t).toNat, hI t⟩ x h else (0 : EReal) := by
  unfold outAt gAt k0_pay25 k0_pay24
  pointwise
  simp only [bit_real]
  rw [hi]
  have hk := hI t
  by_cases h25 : cnt (idOf I) t < 25
  · rw [if_pos h25]
    have hs : 32 * (idOf I t).toNat + cnt (idOf I) t < 2048 := by omega
    have ht : Sits (idOf I) t (32 * (idOf I t).toNat + cnt (idOf I) t) := ⟨h25, rfl⟩
    rw [← comm_apply m X I W hX hi hW hI t ⟨_, hs⟩ h ht]
    refine sum_sel (fun x : Fin 2048 => rowOf I (ix2 t 0) = BitVec.ofNat 32 x.val) (fun x => comm m (ix2 x h)) ⟨_, hs⟩
      ((rowOf_eq_iff I hI t _ hs).mpr ht) fun u hu => ?_
    exact Fin.ext ((rowOf_eq_iff I hI t _ u.isLt).mp hu).2
  · rw [if_neg h25]
    have e : ∀ x : Fin 2048, (if rowOf I (ix2 t 0) = BitVec.ofNat 32 x.val then (1 : EReal) else 0) * comm m (ix2 x h) = (0 : EReal) := by
      intro x
      rw [if_neg (fun hx => h25 ((rowOf_eq_iff I hI t _ x.isLt).mp hx).1)]
      exact zero_mul (M₀ := EReal) _
    exact Finset.sum_eq_zero (M := EReal) fun x _ => e x

end Cert.MoE
-- ==== Proof.Final.lean ====
/-
# The arrays around the launch

Every window of the launch is its whole array at the one grid point: what a device stages of an argument is the argument,
and what it writes back is the whole result.
-/
module

public import proofs.«01_k».proof.Proof.Run
public import proofs.«01_k».proof.Proof.Value
public import Idealize.ShloMosaic.Lib.Pipeline.ValueKit.Geometry

@[expose] public section

set_option maxRecDepth 16384

noncomputable section

namespace Cert.MoE

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem xAt_eq (c : Dev nD) : xAt m c = m ((c : Thread nD τ).loc main_arg0) := by
  unfold xAt
  funext y
  show (m ((c : Thread nD τ).loc main_arg0)) (((cfg0.win (0 : Fin 4)).blk (0 : Fin 1)).view.emb y) = _
  congr 1
  funext a
  apply Fin.ext
  blk_simp
  exact (congrArg (· + (y a).val) (Nat.zero_mul _)).trans (Nat.zero_add _)

theorem iAt_eq (c : Dev nD) : iAt m c = m ((c : Thread nD τ).loc main_arg2) := by
  unfold iAt
  funext y
  show (m ((c : Thread nD τ).loc main_arg2)) (((cfg0.win (1 : Fin 4)).blk (0 : Fin 1)).view.emb y) = _
  congr 1
  funext a
  apply Fin.ext
  blk_simp
  exact (congrArg (· + (y a).val) (Nat.zero_mul _)).trans (Nat.zero_add _)

theorem wAt_eq (c : Dev nD) : wAt m c = m ((c : Thread nD τ).loc main_arg3) := by
  unfold wAt
  funext y
  show (m ((c : Thread nD τ).loc main_arg3)) (((cfg0.win (2 : Fin 4)).blk (0 : Fin 1)).view.emb y) = _
  congr 1
  funext a
  apply Fin.ext
  blk_simp
  exact (congrArg (· + (y a).val) (Nat.zero_mul _)).trans (Nat.zero_add _)

theorem finalA_o (c : Dev nD) : finalA m ρ c (3 : Fin 4) = outAt m c := by
  unfold finalA
  funext i
  refine ((dats m ρ 0 c).arrAt_emb_eq_after_last (3 : Fin 4) (⟨0, by decide +kernel⟩ : Fin cfg0.grid.N) (by decide +kernel) i).trans ?_
  rfl

theorem wsl_apply (W : (cc0_stg2_0 : Ref sig .tc).ty.Contents (Elt Ideal)) (j : Fin 8) (x : Fin 512) (h : Fin 1024) :
   wsl W j (ix3 0 x h) = W (ix3 j x h) := by
  unfold wsl
  show W ((wM.view.slice (Rect.unit (s := S8x512x1024) ![j.val, 0, 0] S1x512x1024.size (wsl_inb j))).emb (ix3 0 x h)) = _
  congr 1
  funext a
  apply Fin.ext
  match a with
  | ⟨0, _⟩ => show j.val + 1 * 0 = j.val; omega
  | ⟨1, _⟩ => show 0 + 1 * x.val = x.val; omega
  | ⟨2, _⟩ => show 0 + 1 * h.val = h.val; omega

end Cert.MoE
-- ==== Proof.Ref.lean ====
/-
# The reference's result on the extended reals

Entry `(t, h)` of the reference's result is the token's row times its expert's matrix if fewer than 25 earlier tokens
chose that expert, and 0 otherwise.
-/
module

public import proofs.«01_k».proof.Proof.Rank
public import proofs.«01_k».proof.Proof.Gen.ReferenceIdeal
public import proofs.«01_k».proof.Proof.Gen.ReferenceIdeal.Run

@[expose] public section

set_option maxRecDepth 16384

noncomputable section

namespace Cert.MoE.Ref

open Cert.ReferenceIdeal Cert.ReferenceIdeal.Gen
open Idealize.ShloMosaic Idealize.ShloMosaic.TcCoe

/-- The reference's result as one term of its arguments. -/
def refOut (X : FVec Ideal S2048x512 .f32) (I : IVec S2048x1 32) (W : FVec Ideal S64x512x1024 .f32) : FVec Ideal S2048x1024 .f32 :=
  select (broadcastInDim S2048x1024 ![0, 1] bcast_S2048x1_S2048x1024_0_1 (broadcastInDim S2048x1 ![0] bcast_S2048_S2048x1_0 (cmpi .slt (Host.reduce IntOp.addi (extui 32 (andi (cmpi .eq (broadcastInDim S2048x2048 ![0, 1] bcast_S2048x1_S2048x2048_0_1 (broadcastInDim S2048x1 ![0] bcast_S2048_S2048x1_0 (shapeCast _ I shapeCasts_S2048x1_S2048))) (broadcastInDim S2048x2048 ![0, 1] bcast_S1x2048_S2048x2048_0_1 (broadcastInDim S1x2048 ![1] bcast_S2048_S1x2048_1 (shapeCast _ I shapeCasts_S2048x1_S2048)))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) natLt_1_32) (constantI S_ 32 0#32) reducesTo_S2048x2048_S2048_d1 h_S_) (broadcastInDim S2048 ![] bcast_S_S2048 (constantI S_ 32 25#32))))) (Host.dotGeneral dot_S2048x512_S2048x512x1024_S2048x1024_1_1_n_2_0_0 none X (Host.gather gather_S64x512x1024_S2048x1_S2048x512x1024_12_0_n_n_0_1_15121024 W (broadcastInDim S2048x1 ![0] bcast_S2048_S2048x1_0 (select (cmpi .slt (shapeCast _ I shapeCasts_S2048x1_S2048) (broadcastInDim S2048 ![] bcast_S_S2048 (constantI S_ 32 0#32))) (addi (shapeCast _ I shapeCasts_S2048x1_S2048) (broadcastInDim S2048 ![] bcast_S_S2048 (constantI S_ 32 64#32))) (shapeCast _ I shapeCasts_S2048x1_S2048))))) (broadcastInDim S2048x1024 ![] bcast_S_S2048x1024 (id (constant S_ .f32 0x00000000#32)))

/-- The gather of whole matrices by an expert number in range. -/
theorem gather_apply (W : FVec Ideal S64x512x1024 .f32) (idx : IVec S2048x1 32) (t : Fin 2048) (x : Fin 512) (h : Fin 1024) (k : Fin 64)
    (hk : idx (ix2 t 0) = BitVec.ofNat 32 k.val) :
    Host.gather gather_S64x512x1024_S2048x1_S2048x512x1024_12_0_n_n_0_1_15121024 W idx (ix3 t x h) = W (ix3 k x h) := by
  unfold Host.gather
  refine congrArg W (funext fun a => Fin.ext ?_)
  show GatherDims.start _ (ix3 t x h) idx a + GatherDims.batchCoord _ (ix3 t x h) a + GatherDims.offCoord _ (ix3 t x h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S64x512x1024.rank)
      ∈ gather_S64x512x1024_S2048x1_S2048x512x1024_12_0_n_n_0_1_15121024.startIndexMap from List.mem_singleton.mpr rfl)]
    have hsi : GatherDims.siIdx gather_S64x512x1024_S2048x1_S2048x512x1024_12_0_n_n_0_1_15121024 (ix3 t x h)
        ⟨List.idxOf (0 : Fin 3) [0], List.idxOf_lt_length_iff.2 (List.mem_singleton.mpr rfl)⟩ = ix2 t 0 := by
      funext b; refine Fin.ext ?_
      match b with
      | ⟨0, _⟩ => rfl
      | ⟨1, _⟩ => rfl
    refine (congrArg (fun w : BitVec 32 => min w.toInt.toNat 63) ((congrArg idx hsi).trans hk)).trans ?_
    have e : ∀ k : Fin 64, min (BitVec.ofNat 32 k.val).toInt.toNat 63 = k.val := by decide +kernel
    exact e k
  | ⟨1, _⟩ =>
    unfold GatherDims.start GatherDims.offCoord
    rw [dif_neg (show (⟨1, by decide⟩ : Fin S64x512x1024.rank)
        ∉ gather_S64x512x1024_S2048x1_S2048x512x1024_12_0_n_n_0_1_15121024.startIndexMap from by decide +kernel),
      dif_pos (show (⟨1, by decide⟩ : Fin S64x512x1024.rank)
        ∈ gather_S64x512x1024_S2048x1_S2048x512x1024_12_0_n_n_0_1_15121024.sKept from by decide +kernel), Nat.zero_add]
    rfl
  | ⟨2, _⟩ =>
    unfold GatherDims.start GatherDims.offCoord
    rw [dif_neg (show (⟨2, by decide⟩ : Fin S64x512x1024.rank)
        ∉ gather_S64x512x1024_S2048x1_S2048x512x1024_12_0_n_n_0_1_15121024.startIndexMap from by decide +kernel),
      dif_pos (show (⟨2, by decide⟩ : Fin S64x512x1024.rank)
        ∈ gather_S64x512x1024_S2048x1_S2048x512x1024_12_0_n_n_0_1_15121024.sKept from by decide +kernel), Nat.zero_add]
    rfl

/-- The order of two token numbers as words. -/
theorem slt_word (a b : Fin 2048) : IntOp.cmpi .slt (BitVec.ofNat 32 a.val) (BitVec.ofNat 32 b.val) = BitVec.ofBool (decide (a < b)) := by
  show BitVec.ofBool (BitVec.slt _ _) = _
  congr 1
  have ha := a.isLt
  have hb := b.isLt
  rw [BitVec.slt, BitVec.toInt_eq_toNat_of_lt (by simp only [BitVec.toNat_ofNat]; omega),
    BitVec.toInt_eq_toNat_of_lt (by simp only [BitVec.toNat_ofNat]; omega)]
  simp only [BitVec.toNat_ofNat]
  rw [Nat.mod_eq_of_lt (by omega), Nat.mod_eq_of_lt (by omega)]
  simp only [Nat.cast_lt, Fin.lt_def]

/-- The reference's count of earlier tokens of the same expert. -/
theorem count_apply (I : IVec S2048x1 32) (t : Fin 2048) :
    Finset.fold IntOp.addi (0#32) (fun x : Fin 2048 => BitVec.setWidth 32
      (IntOp.andi (IntOp.cmpi CmpIPredicate.eq (I (ix2 t 0)) (I (ix2 x 0))) (IntOp.cmpi CmpIPredicate.slt (BitVec.ofNat 32 x.val) (BitVec.ofNat 32 t.val))))
      Finset.univ = BitVec.ofNat 32 (cnt (idOf (F := Ideal) I) t) := by
  have e2 : ∀ f : Fin 2048 → BitVec 32, Finset.fold IntOp.addi (0#32) f Finset.univ = ∑ x, f x := fun f => by
    rw [Finset.sum_eq_fold]; rfl
  have e1 : ∀ x : Fin 2048, BitVec.setWidth 32 (IntOp.andi (IntOp.cmpi CmpIPredicate.eq (I (ix2 t 0)) (I (ix2 x 0)))
      (IntOp.cmpi CmpIPredicate.slt (BitVec.ofNat 32 x.val) (BitVec.ofNat 32 t.val)))
      = if x < t ∧ idOf (F := Ideal) I x = idOf (F := Ideal) I t then (1 : BitVec 32) else 0 := by
    intro x
    rw [slt_word, ite_and]
    have eb : IntOp.cmpi CmpIPredicate.eq (I (ix2 t 0)) (I (ix2 x 0)) = BitVec.ofBool (decide (idOf (F := Ideal) I x = idOf (F := Ideal) I t)) := by
      by_cases hx : idOf (F := Ideal) I x = idOf (F := Ideal) I t
      · rw [decide_eq_true hx, show I (ix2 t 0) = I (ix2 x 0) from hx.symm]
        simp [IntOp.cmpi]
      · rw [decide_eq_false hx]
        exact congrArg BitVec.ofBool (beq_eq_false_iff_ne.mpr fun h => hx h.symm)
    rw [eb]
    by_cases h1 : x < t <;> by_cases hx : idOf (F := Ideal) I x = idOf (F := Ideal) I t <;> simp only [h1, hx, if_true, if_false, decide_true, decide_false] <;> rfl
  rw [e2]
  simp only [e1]
  rw [Finset.sum_boole]
  rfl

theorem refOut_apply (X : FVec Ideal S2048x512 .f32) (I : IVec S2048x1 32) (W : FVec Ideal S64x512x1024 .f32)
    (hI : ∀ t, (idOf (F := Ideal) I t).toNat < 64) (t : Fin 2048) (h : Fin 1024) :
    refOut X I W (ix2 t h) = if cnt (idOf (F := Ideal) I) t < 25 then
      ∑ x : Fin 512, X (ix2 t x) * W (ix3 (⟨(idOf (F := Ideal) I t).toNat, hI t⟩ : Fin 64) x h) else (0 : EReal) := by
  unfold refOut
  pointwise
  rw [count_apply]
  have e : ∀ n : Fin 2048, IntOp.cmpi .slt (BitVec.ofNat 32 n.val) 25#32 = BitVec.ofBool (decide (n.val < 25)) := by decide +kernel
  rw [e ⟨_, cnt_lt _ t⟩]
  dsimp only
  by_cases h25 : cnt (idOf (F := Ideal) I) t < 25
  · rw [if_pos h25, decide_eq_true h25]
    have sel : ∀ {α : Type} (a b : α), Scalar.select (BitVec.ofBool true) a b = a := fun _ _ => rfl
    refine (sel _ _).trans ?_
    refine Finset.sum_congr (M := EReal) rfl fun x _ => ?_
    congr 1
    refine gather_apply W _ t x h ⟨_, hI t⟩ ?_
    pointwise
    have ew : ∀ k : Fin 64, Scalar.select (IntOp.cmpi .slt (BitVec.ofNat 32 k.val) 0#32) (IntOp.addi (BitVec.ofNat 32 k.val) 64#32) (BitVec.ofNat 32 k.val)
        = BitVec.ofNat 32 k.val := by decide +kernel
    have hw : I (ix2 t 0) = BitVec.ofNat 32 (⟨_, hI t⟩ : Fin 64).val := by
      show _ = BitVec.ofNat 32 (I (ix2 t 0)).toNat
      simp
    rw [hw]
    exact ew _
  · rw [if_neg h25, decide_eq_false h25]
    show constant (F := Ideal) S_ FTy.f32 0#32 ix0 = (0 : EReal)
    pointwise

end Cert.MoE.Ref
-- ==== Proof.Equal.lean ====
/-
# The kernel's result is the reference's

The devices hold the tokens and their experts' numbers in full and eight of the 64 matrices each; given that, and experts
numbered below 64, every device's result is the reference's result of the whole arrays.
-/
module

public import proofs.«01_k».proof.Proof.Final
public import proofs.«01_k».proof.Proof.Ref
public import proofs.«01_k».proof.Defs
public import proofs.«01_k».proof.Proof.Gen.Pre_expert_ids_KernelIdeal
public import Idealize.ShloMosaic.Lib.Layout
public import Idealize.ShloMosaic.Lib.Tactic.WordOmega

@[expose] public section

set_option maxRecDepth 16384

noncomputable section

namespace Cert.MoE

open Cert.KernelIdeal Cert.KernelIdeal.Gen
open Idealize.ShloMosaic Idealize.ShloMosaic.TcCoe
open Idealize.SL.Sem

variable (m : (ℓ : Loc nD τ sig) → Buf (Elt Ideal) ℓ)

theorem out_eq_ref (X : FVec Ideal S2048x512 .f32) (I : IVec S2048x1 32) (W : FVec Ideal ⟨3, ![64, 512, 1024]⟩ .f32)
    (hX : ∀ c : Dev nD, m ((c : Thread nD τ).loc main_arg0) = X) (hi : ∀ c : Dev nD, m ((c : Thread nD τ).loc main_arg2) = I)
    (hW : ∀ c : Dev nD, m ((c : Thread nD τ).loc main_arg3) = Layout.block ⟨3, ![8, 512, 1024]⟩ ⟨3, ![64, 512, 1024]⟩ 0 8 c W)
    (hI : ∀ t, (idOf (F := Ideal) I t).toNat < 64) (c : Dev nD) :
    outAt (F := Ideal) m c = Ref.refOut X I W := by
  funext (j : S2048x1024.Idx)
  obtain ⟨t, h, rfl⟩ : ∃ (t : Fin 2048) (h : Fin 1024), j = ix2 t h := ⟨j 0, j 1, eq_ix2 j⟩
  rw [Ref.refOut_apply X I W hI t h]
  refine out_apply m X I (fun k x h => W (ix3 k x h)) (fun c => (xAt_eq m c).trans (hX c)) (fun c => (iAt_eq m c).trans (hi c))
    (fun c j x h => ?_) hI c t h
  rw [wsl_apply, wAt_eq, hW, Layout.block_apply]
  congr 1
  funext a
  apply Fin.ext
  rw [Layout.Tiles.idx_val]
  match a with
  | ⟨0, _⟩ => show c.val * 8 + j.val = 8 * c.val + j.val; omega
  | ⟨1, _⟩ => rfl
  | ⟨2, _⟩ => rfl

theorem word_lt (a : BitVec 32) (h : IntOp.andi (IntOp.cmpi .sge a 0#32) (IntOp.cmpi .slt a 64#32) = 1#1) : a.toNat < 64 := by
  word_omega

/-- The precondition, read at a token. -/
theorem ids_lt [Cert.Pre_expert_ids_KernelIdeal.Facts] (hpre : Cert.Pre_KernelIdeal_expert_ids_KernelIdeal m) (c : Dev nD) (t : Fin 2048) :
    (idOf (F := Ideal) (m ((c : Thread nD τ).loc main_arg2)) t).toNat < 64 := by
  have h := congrFun (hpre c) (ix2 t 0)
  unfold Cert.Pre_expert_ids_KernelIdeal.fn at h
  pointwise at h
  exact word_lt _ h

end Cert.MoE
-- ==== Proof.lean ====
/- The claims of this certificate, put together from the modules under Proof/. -/
module

public import proofs.«01_k».proof.Defs
public import proofs.«01_k».proof.Proof.Run
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_expert_ids_KernelIdeal
public import proofs.«01_k».proof.Proof.Gen.Pre_expert_ids_ReferenceIdeal
public import Idealize.ShloMosaic.Adequacy
public import Idealize.ShloMosaic.Init
public import Idealize.ShloMosaic.Lib.Quiescent
public import Idealize.ShloMosaic.Lib.Tactic

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_expert_ids_KernelIdeal.Facts := Cert.Pre_expert_ids_KernelIdeal.Gen.facts
instance : Cert.Pre_expert_ids_ReferenceIdeal.Facts := Cert.Pre_expert_ids_ReferenceIdeal.Gen.facts

theorem args_unchanged {F : FTy → Type} [FloatOps F] (m : (ℓ : Loc KernelIdeal.nD KernelIdeal.τ KernelIdeal.sig) → Buf (Elt F) ℓ) (ρ)
    {s : MemSt KernelIdeal.nD KernelIdeal.τ KernelIdeal.sig (Elt F)} (h : Cert.MoE.QC m ρ s) (c : Dev KernelIdeal.nD) :
    s.mem ((c.tc : Thread KernelIdeal.nD KernelIdeal.τ).loc KernelIdeal.main_arg0) = m ((c.tc : Thread KernelIdeal.nD KernelIdeal.τ).loc KernelIdeal.main_arg0)
      ∧ s.mem ((c.tc : Thread KernelIdeal.nD KernelIdeal.τ).loc KernelIdeal.main_arg1) = m ((c.tc : Thread KernelIdeal.nD KernelIdeal.τ).loc KernelIdeal.main_arg1)
      ∧ s.mem ((c.tc : Thread KernelIdeal.nD KernelIdeal.τ).loc KernelIdeal.main_arg2) = m ((c.tc : Thread KernelIdeal.nD KernelIdeal.τ).loc KernelIdeal.main_arg2)
      ∧ s.mem ((c.tc : Thread KernelIdeal.nD KernelIdeal.τ).loc KernelIdeal.main_arg3) = m ((c.tc : Thread KernelIdeal.nD KernelIdeal.τ).loc KernelIdeal.main_arg3) :=
  ⟨((h c).1 (0 : Fin 4)).trans (Cert.MoE.finalA_x m ρ c), (h c).2, ((h c).1 (1 : Fin 4)).trans (Cert.MoE.finalA_i m ρ c),
    ((h c).1 (2 : Fin 4)).trans (Cert.MoE.finalA_w m ρ c)⟩

/-- What the run leaves, for any float values: the inputs unchanged, every counter at zero. -/
theorem frame_any {F : FTy → Type} [FloatOps F] (m : (ℓ : Loc KernelIdeal.nD KernelIdeal.τ KernelIdeal.sig) → Buf (Elt F) ℓ) (ρ : Dev KernelIdeal.nD → PrngReg) :
    θ_run (Cert.KernelIdeal.defs (F := F)) (onTc (τ := Cert.KernelIdeal.τ) (Cert.KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run Cert.KernelIdeal.defs _ _).mono (fun _ h => ⟨args_unchanged m ρ h.1, h.2⟩) (Cert.MoE.run_main m ρ)

theorem frame_ideal : Cert.quiescent_KernelIdeal := fun m ρ _ => frame_any m ρ

/-- The two kernel programs have one text, so the first one's statement is the second one's, at bit patterns. -/
theorem same_text : Cert.quiescent_Kernel
    = ∀ (m : (ℓ : Loc KernelIdeal.nD KernelIdeal.τ KernelIdeal.sig) → Buf (Elt Bits) ℓ) (ρ : Dev KernelIdeal.nD → PrngReg), True →
      θ_run (Cert.KernelIdeal.defs (F := Bits)) (onTc (τ := Cert.KernelIdeal.τ) (Cert.KernelIdeal.main (F := Bits))) ⟨m, fun _ => 0, ρ⟩ (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
        ∧ r.2.sem = fun _ => 0) := by
  sl_kernel_rfl

theorem frame_kernel : Cert.quiescent_Kernel := same_text.mpr fun m ρ _ => frame_any (F := Bits) m ρ

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device's result is the reference's, for experts numbered below 64. -/
theorem algebraic : Cert.algebraic_KernelIdeal_ReferenceIdeal_pre_expert_ids_KernelIdeal := by
  intro m g m' g' hpre hargs
  refine ⟨Cert.MoE.Ref.refOut (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3)), ?_, ?_⟩
  · refine (θ_run Cert.KernelIdeal.defs _ _).mono (fun r h c => ⟨?_, args_unchanged m g h.1 c⟩) (Cert.MoE.run_main m g)
    refine ((h.1 c).1 (3 : Fin 4)).trans ((Cert.MoE.finalA_o m g c).trans ?_)
    refine Cert.MoE.out_eq_ref m _ _ _ (fun c => (hargs c).1) (fun c => (hargs c).2.2.1) (fun c => (hargs c).2.2.2) (fun t => ?_) c
    rw [← (hargs 0).2.2.1]
    exact Cert.MoE.ids_lt m hpre 0 t
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_expert_ids_KernelIdeal.Gen.facts,
    Cert.Pre_expert_ids_ReferenceIdeal.Gen.facts, frame_kernel, frame_ideal, fun m ρ _ => frame_ideal m ρ trivial, frame_reference,
    fun m ρ _ => frame_reference m ρ trivial, trivial, algebraic⟩

end Cert.Proof

end
